-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v528) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x3072 : Shape := ⟨2, ![4096, 3072]⟩
abbrev S4096x1024 : Shape := ⟨2, ![4096, 1024]⟩
abbrev S8x1x128 : Shape := ⟨3, ![8, 1, 128]⟩
abbrev S512x1024 : Shape := ⟨2, ![512, 1024]⟩
abbrev S1x1x128 : Shape := ⟨3, ![1, 1, 128]⟩
abbrev S1x128 : Shape := ⟨2, ![1, 128]⟩
abbrev S1x512x1024 : Shape := ⟨3, ![1, 512, 1024]⟩
abbrev S1 : Shape := ⟨1, ![1]⟩
abbrev S1x1x1 : Shape := ⟨3, ![1, 1, 1]⟩
abbrev S8x1x3 : Shape := ⟨3, ![8, 1, 3]⟩
abbrev S8x3 : Shape := ⟨2, ![8, 3]⟩
abbrev S_ : Shape := ⟨0, ![]⟩
abbrev S3 : Shape := ⟨1, ![3]⟩
abbrev S256x1x128 : Shape := ⟨3, ![256, 1, 128]⟩
abbrev S16x1024 : Shape := ⟨2, ![16, 1024]⟩
abbrev S16x3072 : Shape := ⟨2, ![16, 3072]⟩
abbrev S1x16x3072 : Shape := ⟨3, ![1, 16, 3072]⟩
abbrev S128x1024 : Shape := ⟨2, ![128, 1024]⟩
abbrev S1x1024 : Shape := ⟨2, ![1, 1024]⟩
abbrev S128x128 : Shape := ⟨2, ![128, 128]⟩
abbrev S128 : Shape := ⟨1, ![128]⟩
abbrev S16x1023 : Shape := ⟨2, ![16, 1023]⟩
abbrev S16x1 : Shape := ⟨2, ![16, 1]⟩
abbrev S16x1022 : Shape := ⟨2, ![16, 1022]⟩
abbrev S16x2 : Shape := ⟨2, ![16, 2]⟩
abbrev S16x1020 : Shape := ⟨2, ![16, 1020]⟩
abbrev S16x4 : Shape := ⟨2, ![16, 4]⟩
abbrev S16x1016 : Shape := ⟨2, ![16, 1016]⟩
abbrev S16x8 : Shape := ⟨2, ![16, 8]⟩
abbrev S16x1008 : Shape := ⟨2, ![16, 1008]⟩
abbrev S16x16 : Shape := ⟨2, ![16, 16]⟩
abbrev S16x992 : Shape := ⟨2, ![16, 992]⟩
abbrev S16x32 : Shape := ⟨2, ![16, 32]⟩
abbrev S16x960 : Shape := ⟨2, ![16, 960]⟩
abbrev S16x64 : Shape := ⟨2, ![16, 64]⟩
abbrev S16x896 : Shape := ⟨2, ![16, 896]⟩
abbrev S16x128 : Shape := ⟨2, ![16, 128]⟩
abbrev S16x768 : Shape := ⟨2, ![16, 768]⟩
abbrev S16x256 : Shape := ⟨2, ![16, 256]⟩
abbrev S16x512 : Shape := ⟨2, ![16, 512]⟩
abbrev S1x16x1024 : Shape := ⟨3, ![1, 16, 1024]⟩
abbrev S16 : Shape := ⟨1, ![16]⟩
abbrev S1x16x1 : Shape := ⟨3, ![1, 16, 1]⟩
abbrev S256x128 : Shape := ⟨2, ![256, 128]⟩

abbrev nBuf : Space → Nat
  | .hbm => 147
  | .vmem => 26
  | .smem => 1
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x3072, .f32⟩
  | 8 => ⟨S8x1x128, .f32⟩
  | 9 => ⟨S8x1x3, .f32⟩
  | 10 => ⟨S8x3, .f32⟩
  | 11 => ⟨S_, .f32⟩
  | 12 => ⟨S3, .f32⟩
  | 13 => ⟨S3, .f32⟩
  | 14 => ⟨S256x1x128, .f32⟩
  | 15 => ⟨S256x128, .f32⟩
  | 16 => ⟨S_, .f32⟩
  | 17 => ⟨S128, .f32⟩
  | 18 => ⟨S1, .f32⟩
  | 19 => ⟨S_, .f32⟩
  | 20 => ⟨S1, .f32⟩
  | 21 => ⟨S_, .f32⟩
  | 22 => ⟨S1, .f32⟩
  | 23 => ⟨S_, .f32⟩
  | 24 => ⟨S1, .f32⟩
  | 25 => ⟨S_, .f32⟩
  | 26 => ⟨S1, .f32⟩
  | 27 => ⟨S_, .f32⟩
  | 28 => ⟨S1, .f32⟩
  | 29 => ⟨S_, .f32⟩
  | 30 => ⟨S1, .f32⟩
  | 31 => ⟨S_, .f32⟩
  | 32 => ⟨S1, .f32⟩
  | 33 => ⟨S_, .f32⟩
  | 34 => ⟨S1, .f32⟩
  | 35 => ⟨S_, .f32⟩
  | 36 => ⟨S1, .f32⟩
  | 37 => ⟨S_, .f32⟩
  | 38 => ⟨S1, .f32⟩
  | 39 => ⟨S_, .f32⟩
  | 40 => ⟨S1, .f32⟩
  | 41 => ⟨S_, .f32⟩
  | 42 => ⟨S1, .f32⟩
  | 43 => ⟨S_, .f32⟩
  | 44 => ⟨S1, .f32⟩
  | 45 => ⟨S_, .f32⟩
  | 46 => ⟨S1, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S4096x3072, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1x128, .f32⟩
  | .local _ .vmem, ⟨7, _⟩ => ⟨S1x1x128, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S16x1024, .f32⟩
  | .local _ .vmem, ⟨20, _⟩ => ⟨S16x3072, .f32⟩
  | .local _ .vmem, ⟨21, _⟩ => ⟨S16x3072, .f32⟩
  | .local _ .vmem, ⟨22, _⟩ => ⟨S16x3072, .f32⟩
  | .local _ .vmem, ⟨23, _⟩ => ⟨S16x3072, .f32⟩
  | .local _ .vmem, ⟨24, _⟩ => ⟨S1x1x128, .f32⟩
  | .local _ .vmem, ⟨25, _⟩ => ⟨S1x1x128, .f32⟩
  | .local _ .smem, ⟨0, _⟩ => ⟨S3, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_cst_3 : Ref sig .tc := ⟨.hbm, 52, rfl⟩
abbrev main_cst_4 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_cst_17 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_18 : Ref sig .tc := ⟨.hbm, 88, rfl⟩
abbrev main_v61 : Ref sig .tc := ⟨.hbm, 89, rfl⟩
abbrev main_cst_19 : Ref sig .tc := ⟨.hbm, 90, rfl⟩
abbrev main_v62 : Ref sig .tc := ⟨.hbm, 91, rfl⟩
abbrev main_cst_20 : Ref sig .tc := ⟨.hbm, 92, rfl⟩
abbrev main_v63 : Ref sig .tc := ⟨.hbm, 93, rfl⟩
abbrev main_cst_21 : Ref sig .tc := ⟨.hbm, 94, rfl⟩
abbrev main_v64 : Ref sig .tc := ⟨.hbm, 95, rfl⟩
abbrev main_cst_22 : Ref sig .tc := ⟨.hbm, 96, rfl⟩
abbrev main_v65 : Ref sig .tc := ⟨.hbm, 97, rfl⟩
abbrev main_cst_23 : Ref sig .tc := ⟨.hbm, 98, rfl⟩
abbrev main_v66 : Ref sig .tc := ⟨.hbm, 99, rfl⟩
abbrev main_cst_24 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_25 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_26 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_27 : Ref sig .tc := ⟨.hbm, 144, rfl⟩
abbrev main_v108 : Ref sig .tc := ⟨.hbm, 145, rfl⟩
abbrev main_v109 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S16x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S16x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x3072 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S16x3072 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .smem S3 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S4096x3072 : Shape := ⟨2, ![4096, 3072]⟩
abbrev S4096x1024 : Shape := ⟨2, ![4096, 1024]⟩
abbrev S_ : Shape := ⟨0, ![]⟩
abbrev S4096x1x1024 : Shape := ⟨3, ![4096, 1, 1024]⟩
abbrev S4096x1024x1 : Shape := ⟨3, ![4096, 1024, 1]⟩
abbrev S4096x1024x1024 : Shape := ⟨3, ![4096, 1024, 1024]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 894
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x3072, .f32⟩
  | 8 => ⟨S4096x3072, .f32⟩
  | 9 => ⟨S4096x3072, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .i32⟩
  | 29 => ⟨S_, .i32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .i32⟩
  | 37 => ⟨S_, .f32⟩
  | 38 => ⟨S_, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S_, .i32⟩
  | 50 => ⟨S_, .i32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .i32⟩
  | 58 => ⟨S_, .f32⟩
  | 59 => ⟨S_, .f32⟩
  | 60 => ⟨S_, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .i32⟩
  | 71 => ⟨S_, .i32⟩
  | 72 => ⟨S_, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S4096x1024, .i32⟩
  | 79 => ⟨S4096x1024, .i32⟩
  | 80 => ⟨S4096x1x1024, .i32⟩
  | 81 => ⟨S4096x1024x1, .i32⟩
  | 82 => ⟨S4096x1024x1024, .i32⟩
  | 83 => ⟨S4096x1024x1024, .i32⟩
  | 84 => ⟨S4096x1024x1024, .i1⟩
  | 85 => ⟨S4096x1024x1024, .i32⟩
  | 86 => ⟨S_, .i32⟩
  | 87 => ⟨S4096x1024, .i32⟩
  | 88 => ⟨S4096x1x1024, .i32⟩
  | 89 => ⟨S4096x1024x1, .i32⟩
  | 90 => ⟨S4096x1024x1024, .i32⟩
  | 91 => ⟨S4096x1024x1024, .i32⟩
  | 92 => ⟨S4096x1024x1024, .i1⟩
  | 93 => ⟨S4096x1024x1024, .i32⟩
  | 94 => ⟨S_, .i32⟩
  | 95 => ⟨S4096x1024, .i32⟩
  | 96 => ⟨S4096x1024, .i32⟩
  | 97 => ⟨S4096x1024, .f32⟩
  | 98 => ⟨S_, .f32⟩
  | 99 => ⟨S_, .f32⟩
  | 100 => ⟨S4096x1024, .f32⟩
  | 101 => ⟨S_, .f32⟩
  | 102 => ⟨S4096, .f32⟩
  | 103 => ⟨S_, .f32⟩
  | 104 => ⟨S4096, .f32⟩
  | 105 => ⟨S4096, .f32⟩
  | 106 => ⟨S4096, .f32⟩
  | 107 => ⟨S4096, .f32⟩
  | 108 => ⟨S_, .f32⟩
  | 109 => ⟨S_, .f32⟩
  | 110 => ⟨S_, .f32⟩
  | 111 => ⟨S_, .f32⟩
  | 112 => ⟨S4096x1024, .i32⟩
  | 113 => ⟨S4096x1x1024, .i32⟩
  | 114 => ⟨S4096x1024x1, .i32⟩
  | 115 => ⟨S4096x1024x1024, .i32⟩
  | 116 => ⟨S4096x1024x1024, .i32⟩
  | 117 => ⟨S4096x1024x1024, .i1⟩
  | 118 => ⟨S4096x1024x1024, .i32⟩
  | 119 => ⟨S_, .i32⟩
  | 120 => ⟨S4096x1024, .i32⟩
  | 121 => ⟨S4096x1x1024, .i32⟩
  | 122 => ⟨S4096x1024x1, .i32⟩
  | 123 => ⟨S4096x1024x1024, .i32⟩
  | 124 => ⟨S4096x1024x1024, .i32⟩
  | 125 => ⟨S4096x1024x1024, .i1⟩
  | 126 => ⟨S4096x1024x1024, .i32⟩
  | 127 => ⟨S_, .i32⟩
  | _ => ⟨S4096x3072, .f32⟩

abbrev hbmTy0_1 (i : Nat) : BufTy := match i % 128 with
  | 0 => ⟨S4096x1024, .i32⟩
  | 1 => ⟨S4096x1024, .i32⟩
  | 2 => ⟨S4096x1024, .f32⟩
  | 3 => ⟨S_, .f32⟩
  | 4 => ⟨S_, .f32⟩
  | 5 => ⟨S4096x1024, .f32⟩
  | 6 => ⟨S_, .f32⟩
  | 7 => ⟨S4096, .f32⟩
  | 8 => ⟨S_, .f32⟩
  | 9 => ⟨S4096, .f32⟩
  | 10 => ⟨S4096, .f32⟩
  | 11 => ⟨S4096, .f32⟩
  | 12 => ⟨S4096, .f32⟩
  | 13 => ⟨S_, .f32⟩
  | 14 => ⟨S_, .f32⟩
  | 15 => ⟨S_, .f32⟩
  | 16 => ⟨S_, .f32⟩
  | 17 => ⟨S4096x1024, .i32⟩
  | 18 => ⟨S4096x1x1024, .i32⟩
  | 19 => ⟨S4096x1024x1, .i32⟩
  | 20 => ⟨S4096x1024x1024, .i32⟩
  | 21 => ⟨S4096x1024x1024, .i32⟩
  | 22 => ⟨S4096x1024x1024, .i1⟩
  | 23 => ⟨S4096x1024x1024, .i32⟩
  | 24 => ⟨S_, .i32⟩
  | 25 => ⟨S4096x1024, .i32⟩
  | 26 => ⟨S4096x1x1024, .i32⟩
  | 27 => ⟨S4096x1024x1, .i32⟩
  | 28 => ⟨S4096x1024x1024, .i32⟩
  | 29 => ⟨S4096x1024x1024, .i32⟩
  | 30 => ⟨S4096x1024x1024, .i1⟩
  | 31 => ⟨S4096x1024x1024, .i32⟩
  | 32 => ⟨S_, .i32⟩
  | 33 => ⟨S4096x1024, .i32⟩
  | 34 => ⟨S4096x1024, .i32⟩
  | 35 => ⟨S4096x1024, .f32⟩
  | 36 => ⟨S_, .f32⟩
  | 37 => ⟨S_, .f32⟩
  | 38 => ⟨S4096x1024, .f32⟩
  | 39 => ⟨S_, .f32⟩
  | 40 => ⟨S4096, .f32⟩
  | 41 => ⟨S_, .f32⟩
  | 42 => ⟨S4096, .f32⟩
  | 43 => ⟨S4096, .f32⟩
  | 44 => ⟨S4096, .f32⟩
  | 45 => ⟨S4096, .f32⟩
  | 46 => ⟨S_, .f32⟩
  | 47 => ⟨S_, .f32⟩
  | 48 => ⟨S_, .f32⟩
  | 49 => ⟨S_, .f32⟩
  | 50 => ⟨S_, .f32⟩
  | 51 => ⟨S4096, .f32⟩
  | 52 => ⟨S_, .f32⟩
  | 53 => ⟨S4096, .f32⟩
  | 54 => ⟨S4096, .f32⟩
  | 55 => ⟨S4096x1, .f32⟩
  | 56 => ⟨S4096x1024, .f32⟩
  | 57 => ⟨S4096x1024, .f32⟩
  | 58 => ⟨S4096x1024, .f32⟩
  | 59 => ⟨S_, .f32⟩
  | 60 => ⟨S4096, .f32⟩
  | 61 => ⟨S4096x1, .f32⟩
  | 62 => ⟨S4096x1024, .f32⟩
  | 63 => ⟨S4096x1024, .f32⟩
  | 64 => ⟨S_, .f32⟩
  | 65 => ⟨S4096, .f32⟩
  | 66 => ⟨S_, .f32⟩
  | 67 => ⟨S4096, .f32⟩
  | 68 => ⟨S4096, .f32⟩
  | 69 => ⟨S4096x1, .f32⟩
  | 70 => ⟨S4096x1024, .f32⟩
  | 71 => ⟨S4096x1024, .f32⟩
  | 72 => ⟨S4096x1024, .f32⟩
  | 73 => ⟨S_, .f32⟩
  | 74 => ⟨S4096, .f32⟩
  | 75 => ⟨S4096x1, .f32⟩
  | 76 => ⟨S4096x1024, .f32⟩
  | 77 => ⟨S4096x1024, .f32⟩
  | 78 => ⟨S_, .f32⟩
  | 79 => ⟨S4096, .f32⟩
  | 80 => ⟨S_, .f32⟩
  | 81 => ⟨S4096, .f32⟩
  | 82 => ⟨S4096, .f32⟩
  | 83 => ⟨S4096x1, .f32⟩
  | 84 => ⟨S4096x1024, .f32⟩
  | 85 => ⟨S4096x1024, .f32⟩
  | 86 => ⟨S4096x1024, .f32⟩
  | 87 => ⟨S_, .f32⟩
  | 88 => ⟨S4096, .f32⟩
  | 89 => ⟨S4096x1, .f32⟩
  | 90 => ⟨S4096x1024, .f32⟩
  | 91 => ⟨S4096x1024, .f32⟩
  | 92 => ⟨S_, .f32⟩
  | 93 => ⟨S4096, .f32⟩
  | 94 => ⟨S_, .f32⟩
  | 95 => ⟨S4096, .f32⟩
  | 96 => ⟨S4096, .f32⟩
  | 97 => ⟨S4096x1, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S4096x1, .f32⟩
  | 105 => ⟨S4096x1024, .f32⟩
  | 106 => ⟨S4096x1024, .f32⟩
  | 107 => ⟨S4096x1024, .f32⟩
  | 108 => ⟨S_, .f32⟩
  | 109 => ⟨S4096, .f32⟩
  | 110 => ⟨S4096, .f32⟩
  | 111 => ⟨S_, .f32⟩
  | 112 => ⟨S_, .f32⟩
  | 113 => ⟨S_, .f32⟩
  | 114 => ⟨S_, .f32⟩
  | 115 => ⟨S_, .f32⟩
  | 116 => ⟨S4096, .f32⟩
  | 117 => ⟨S_, .f32⟩
  | 118 => ⟨S4096, .f32⟩
  | 119 => ⟨S4096, .f32⟩
  | 120 => ⟨S4096x1, .f32⟩
  | 121 => ⟨S4096x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S4096x1, .f32⟩
  | _ => ⟨S4096x3072, .f32⟩

abbrev hbmTy0_2 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4096, .f32⟩
  | 12 => ⟨S_, .f32⟩
  | 13 => ⟨S4096, .f32⟩
  | 14 => ⟨S4096, .f32⟩
  | 15 => ⟨S4096x1, .f32⟩
  | 16 => ⟨S4096x1024, .f32⟩
  | 17 => ⟨S4096x1024, .f32⟩
  | 18 => ⟨S4096x1024, .f32⟩
  | 19 => ⟨S_, .f32⟩
  | 20 => ⟨S4096, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096, .f32⟩
  | 29 => ⟨S_, .f32⟩
  | 30 => ⟨S_, .f32⟩
  | 31 => ⟨S_, .f32⟩
  | 32 => ⟨S_, .f32⟩
  | 33 => ⟨S_, .f32⟩
  | 34 => ⟨S4096, .f32⟩
  | 35 => ⟨S_, .f32⟩
  | 36 => ⟨S4096, .f32⟩
  | 37 => ⟨S4096, .f32⟩
  | 38 => ⟨S4096x1, .f32⟩
  | 39 => ⟨S4096x1024, .f32⟩
  | 40 => ⟨S4096x1024, .f32⟩
  | 41 => ⟨S4096x1024, .f32⟩
  | 42 => ⟨S_, .f32⟩
  | 43 => ⟨S4096, .f32⟩
  | 44 => ⟨S4096x1, .f32⟩
  | 45 => ⟨S4096x1, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S4096, .f32⟩
  | 58 => ⟨S_, .f32⟩
  | 59 => ⟨S4096, .f32⟩
  | 60 => ⟨S4096, .f32⟩
  | 61 => ⟨S4096x1, .f32⟩
  | 62 => ⟨S4096x1024, .f32⟩
  | 63 => ⟨S4096x1024, .f32⟩
  | 64 => ⟨S4096x1024, .f32⟩
  | 65 => ⟨S_, .f32⟩
  | 66 => ⟨S4096, .f32⟩
  | 67 => ⟨S4096x1, .f32⟩
  | 68 => ⟨S4096x1, .f32⟩
  | 69 => ⟨S4096x1024, .f32⟩
  | 70 => ⟨S4096x1024, .f32⟩
  | 71 => ⟨S4096x1024, .f32⟩
  | 72 => ⟨S_, .f32⟩
  | 73 => ⟨S4096, .f32⟩
  | 74 => ⟨S4096, .f32⟩
  | 75 => ⟨S_, .f32⟩
  | 76 => ⟨S_, .f32⟩
  | 77 => ⟨S_, .f32⟩
  | 78 => ⟨S_, .f32⟩
  | 79 => ⟨S_, .f32⟩
  | 80 => ⟨S4096, .f32⟩
  | 81 => ⟨S_, .f32⟩
  | 82 => ⟨S4096, .f32⟩
  | 83 => ⟨S4096, .f32⟩
  | 84 => ⟨S4096x1, .f32⟩
  | 85 => ⟨S4096x1024, .f32⟩
  | 86 => ⟨S4096x1024, .f32⟩
  | 87 => ⟨S4096x1024, .f32⟩
  | 88 => ⟨S_, .f32⟩
  | 89 => ⟨S4096, .f32⟩
  | 90 => ⟨S4096x1, .f32⟩
  | 91 => ⟨S4096x1, .f32⟩
  | 92 => ⟨S4096x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .i32⟩
  | 106 => ⟨S4096x1024, .i32⟩
  | 107 => ⟨S4096x1024, .i32⟩
  | 108 => ⟨S4096x1024, .i32⟩
  | 109 => ⟨S4096x1024, .i32⟩
  | 110 => ⟨S4096x1x1024, .i32⟩
  | 111 => ⟨S4096x1024x1, .i32⟩
  | 112 => ⟨S4096x1024x1024, .i32⟩
  | 113 => ⟨S4096x1024x1024, .i32⟩
  | 114 => ⟨S4096x1024x1024, .i1⟩
  | 115 => ⟨S4096x1024x1024, .i32⟩
  | 116 => ⟨S_, .i32⟩
  | 117 => ⟨S4096x1024, .i32⟩
  | 118 => ⟨S4096x1x1024, .i32⟩
  | 119 => ⟨S4096x1024x1, .i32⟩
  | 120 => ⟨S4096x1024x1024, .i32⟩
  | 121 => ⟨S4096x1024x1024, .i32⟩
  | 122 => ⟨S4096x1024x1024, .i1⟩
  | 123 => ⟨S4096x1024x1024, .i32⟩
  | 124 => ⟨S_, .i32⟩
  | 125 => ⟨S4096x1024, .i32⟩
  | 126 => ⟨S4096x1024, .i32⟩
  | 127 => ⟨S4096x1024, .f32⟩
  | _ => ⟨S4096x3072, .f32⟩

abbrev hbmTy0_3 (i : Nat) : BufTy := match i % 128 with
  | 0 => ⟨S_, .f32⟩
  | 1 => ⟨S_, .f32⟩
  | 2 => ⟨S4096x1024, .f32⟩
  | 3 => ⟨S_, .f32⟩
  | 4 => ⟨S4096, .f32⟩
  | 5 => ⟨S_, .f32⟩
  | 6 => ⟨S4096, .f32⟩
  | 7 => ⟨S4096, .f32⟩
  | 8 => ⟨S4096, .f32⟩
  | 9 => ⟨S4096, .f32⟩
  | 10 => ⟨S_, .f32⟩
  | 11 => ⟨S_, .f32⟩
  | 12 => ⟨S_, .f32⟩
  | 13 => ⟨S_, .f32⟩
  | 14 => ⟨S_, .i32⟩
  | 15 => ⟨S4096x1024, .i32⟩
  | 16 => ⟨S4096x1024, .i32⟩
  | 17 => ⟨S4096x1024, .i32⟩
  | 18 => ⟨S4096x1024, .i32⟩
  | 19 => ⟨S4096x1x1024, .i32⟩
  | 20 => ⟨S4096x1024x1, .i32⟩
  | 21 => ⟨S4096x1024x1024, .i32⟩
  | 22 => ⟨S4096x1024x1024, .i32⟩
  | 23 => ⟨S4096x1024x1024, .i1⟩
  | 24 => ⟨S4096x1024x1024, .i32⟩
  | 25 => ⟨S_, .i32⟩
  | 26 => ⟨S4096x1024, .i32⟩
  | 27 => ⟨S4096x1x1024, .i32⟩
  | 28 => ⟨S4096x1024x1, .i32⟩
  | 29 => ⟨S4096x1024x1024, .i32⟩
  | 30 => ⟨S4096x1024x1024, .i32⟩
  | 31 => ⟨S4096x1024x1024, .i1⟩
  | 32 => ⟨S4096x1024x1024, .i32⟩
  | 33 => ⟨S_, .i32⟩
  | 34 => ⟨S4096x1024, .i32⟩
  | 35 => ⟨S4096x1024, .i32⟩
  | 36 => ⟨S4096x1024, .f32⟩
  | 37 => ⟨S_, .f32⟩
  | 38 => ⟨S_, .f32⟩
  | 39 => ⟨S4096x1024, .f32⟩
  | 40 => ⟨S_, .f32⟩
  | 41 => ⟨S4096, .f32⟩
  | 42 => ⟨S_, .f32⟩
  | 43 => ⟨S4096, .f32⟩
  | 44 => ⟨S4096, .f32⟩
  | 45 => ⟨S4096, .f32⟩
  | 46 => ⟨S4096, .f32⟩
  | 47 => ⟨S_, .f32⟩
  | 48 => ⟨S_, .f32⟩
  | 49 => ⟨S_, .f32⟩
  | 50 => ⟨S_, .f32⟩
  | 51 => ⟨S_, .i32⟩
  | 52 => ⟨S4096x1024, .i32⟩
  | 53 => ⟨S4096x1024, .i32⟩
  | 54 => ⟨S4096x1024, .i32⟩
  | 55 => ⟨S4096x1024, .i32⟩
  | 56 => ⟨S4096x1x1024, .i32⟩
  | 57 => ⟨S4096x1024x1, .i32⟩
  | 58 => ⟨S4096x1024x1024, .i32⟩
  | 59 => ⟨S4096x1024x1024, .i32⟩
  | 60 => ⟨S4096x1024x1024, .i1⟩
  | 61 => ⟨S4096x1024x1024, .i32⟩
  | 62 => ⟨S_, .i32⟩
  | 63 => ⟨S4096x1024, .i32⟩
  | 64 => ⟨S4096x1x1024, .i32⟩
  | 65 => ⟨S4096x1024x1, .i32⟩
  | 66 => ⟨S4096x1024x1024, .i32⟩
  | 67 => ⟨S4096x1024x1024, .i32⟩
  | 68 => ⟨S4096x1024x1024, .i1⟩
  | 69 => ⟨S4096x1024x1024, .i32⟩
  | 70 => ⟨S_, .i32⟩
  | 71 => ⟨S4096x1024, .i32⟩
  | 72 => ⟨S4096x1024, .i32⟩
  | 73 => ⟨S4096x1024, .f32⟩
  | 74 => ⟨S_, .f32⟩
  | 75 => ⟨S_, .f32⟩
  | 76 => ⟨S4096x1024, .f32⟩
  | 77 => ⟨S_, .f32⟩
  | 78 => ⟨S4096, .f32⟩
  | 79 => ⟨S_, .f32⟩
  | 80 => ⟨S4096, .f32⟩
  | 81 => ⟨S4096, .f32⟩
  | 82 => ⟨S4096, .f32⟩
  | 83 => ⟨S4096, .f32⟩
  | 84 => ⟨S_, .f32⟩
  | 85 => ⟨S_, .f32⟩
  | 86 => ⟨S_, .f32⟩
  | 87 => ⟨S_, .f32⟩
  | 88 => ⟨S4096x2048, .f32⟩
  | 89 => ⟨S4096x2048, .f32⟩
  | 90 => ⟨S_, .f32⟩
  | 91 => ⟨S4096, .f32⟩
  | 92 => ⟨S_, .f32⟩
  | 93 => ⟨S4096, .f32⟩
  | 94 => ⟨S4096, .f32⟩
  | 95 => ⟨S4096x1, .f32⟩
  | 96 => ⟨S4096x2048, .f32⟩
  | 97 => ⟨S4096x2048, .f32⟩
  | 98 => ⟨S4096x2048, .f32⟩
  | 99 => ⟨S_, .f32⟩
  | 100 => ⟨S4096, .f32⟩
  | 101 => ⟨S4096x1, .f32⟩
  | 102 => ⟨S4096x2048, .f32⟩
  | 103 => ⟨S4096x2048, .f32⟩
  | 104 => ⟨S_, .f32⟩
  | 105 => ⟨S4096, .f32⟩
  | 106 => ⟨S_, .f32⟩
  | 107 => ⟨S4096, .f32⟩
  | 108 => ⟨S4096, .f32⟩
  | 109 => ⟨S4096x1, .f32⟩
  | 110 => ⟨S4096x2048, .f32⟩
  | 111 => ⟨S4096x2048, .f32⟩
  | 112 => ⟨S4096x2048, .f32⟩
  | 113 => ⟨S_, .f32⟩
  | 114 => ⟨S4096, .f32⟩
  | 115 => ⟨S4096x1, .f32⟩
  | 116 => ⟨S4096x1, .f32⟩
  | 117 => ⟨S4096x2048, .f32⟩
  | 118 => ⟨S4096x2048, .f32⟩
  | 119 => ⟨S4096x2048, .f32⟩
  | 120 => ⟨S_, .f32⟩
  | 121 => ⟨S4096, .f32⟩
  | 122 => ⟨S4096, .f32⟩
  | 123 => ⟨S_, .f32⟩
  | 124 => ⟨S_, .f32⟩
  | 125 => ⟨S_, .f32⟩
  | 126 => ⟨S_, .f32⟩
  | 127 => ⟨S_, .f32⟩
  | _ => ⟨S4096x3072, .f32⟩

abbrev hbmTy0_4 (i : Nat) : BufTy := match i % 128 with
  | 0 => ⟨S4096, .f32⟩
  | 1 => ⟨S_, .f32⟩
  | 2 => ⟨S4096, .f32⟩
  | 3 => ⟨S4096, .f32⟩
  | 4 => ⟨S4096x1, .f32⟩
  | 5 => ⟨S4096x2048, .f32⟩
  | 6 => ⟨S4096x2048, .f32⟩
  | 7 => ⟨S4096x2048, .f32⟩
  | 8 => ⟨S_, .f32⟩
  | 9 => ⟨S4096, .f32⟩
  | 10 => ⟨S4096x1, .f32⟩
  | 11 => ⟨S4096x1, .f32⟩
  | 12 => ⟨S4096x2048, .f32⟩
  | 13 => ⟨S4096x2048, .f32⟩
  | 14 => ⟨S4096x2048, .f32⟩
  | 15 => ⟨S4096x2048, .f32⟩
  | 16 => ⟨S4096x2048, .f32⟩
  | 17 => ⟨S_, .f32⟩
  | 18 => ⟨S_, .f32⟩
  | 19 => ⟨S_, .f32⟩
  | 20 => ⟨S_, .f32⟩
  | 21 => ⟨S_, .f32⟩
  | 22 => ⟨S4096x2048, .f32⟩
  | 23 => ⟨S4096x2048, .f32⟩
  | 24 => ⟨S_, .f32⟩
  | 25 => ⟨S4096, .f32⟩
  | 26 => ⟨S_, .f32⟩
  | 27 => ⟨S4096, .f32⟩
  | 28 => ⟨S4096, .f32⟩
  | 29 => ⟨S4096x1, .f32⟩
  | 30 => ⟨S4096x2048, .f32⟩
  | 31 => ⟨S4096x2048, .f32⟩
  | 32 => ⟨S4096x2048, .f32⟩
  | 33 => ⟨S_, .f32⟩
  | 34 => ⟨S4096, .f32⟩
  | 35 => ⟨S4096x1, .f32⟩
  | 36 => ⟨S4096x2048, .f32⟩
  | 37 => ⟨S4096x2048, .f32⟩
  | 38 => ⟨S_, .f32⟩
  | 39 => ⟨S4096, .f32⟩
  | 40 => ⟨S_, .f32⟩
  | 41 => ⟨S4096, .f32⟩
  | 42 => ⟨S4096, .f32⟩
  | 43 => ⟨S4096x1, .f32⟩
  | 44 => ⟨S4096x2048, .f32⟩
  | 45 => ⟨S4096x2048, .f32⟩
  | 46 => ⟨S4096x2048, .f32⟩
  | 47 => ⟨S_, .f32⟩
  | 48 => ⟨S4096, .f32⟩
  | 49 => ⟨S4096x1, .f32⟩
  | 50 => ⟨S4096x1, .f32⟩
  | 51 => ⟨S4096x2048, .f32⟩
  | 52 => ⟨S4096x2048, .f32⟩
  | 53 => ⟨S4096x2048, .f32⟩
  | 54 => ⟨S_, .f32⟩
  | 55 => ⟨S4096, .f32⟩
  | 56 => ⟨S4096, .f32⟩
  | 57 => ⟨S_, .f32⟩
  | 58 => ⟨S_, .f32⟩
  | 59 => ⟨S_, .f32⟩
  | 60 => ⟨S_, .f32⟩
  | 61 => ⟨S_, .f32⟩
  | 62 => ⟨S4096, .f32⟩
  | 63 => ⟨S_, .f32⟩
  | 64 => ⟨S4096, .f32⟩
  | 65 => ⟨S4096, .f32⟩
  | 66 => ⟨S4096x1, .f32⟩
  | 67 => ⟨S4096x2048, .f32⟩
  | 68 => ⟨S4096x2048, .f32⟩
  | 69 => ⟨S4096x2048, .f32⟩
  | 70 => ⟨S_, .f32⟩
  | 71 => ⟨S4096, .f32⟩
  | 72 => ⟨S4096x1, .f32⟩
  | 73 => ⟨S4096x1, .f32⟩
  | 74 => ⟨S4096x2048, .f32⟩
  | 75 => ⟨S4096x2048, .f32⟩
  | 76 => ⟨S4096x2048, .f32⟩
  | 77 => ⟨S4096x2048, .f32⟩
  | 78 => ⟨S4096x2048, .f32⟩
  | 79 => ⟨S_, .f32⟩
  | 80 => ⟨S_, .f32⟩
  | 81 => ⟨S_, .f32⟩
  | 82 => ⟨S_, .f32⟩
  | 83 => ⟨S_, .f32⟩
  | 84 => ⟨S4096x2048, .f32⟩
  | 85 => ⟨S4096x2048, .f32⟩
  | 86 => ⟨S_, .f32⟩
  | 87 => ⟨S4096, .f32⟩
  | 88 => ⟨S_, .f32⟩
  | 89 => ⟨S4096, .f32⟩
  | 90 => ⟨S4096, .f32⟩
  | 91 => ⟨S4096x1, .f32⟩
  | 92 => ⟨S4096x2048, .f32⟩
  | 93 => ⟨S4096x2048, .f32⟩
  | 94 => ⟨S4096x2048, .f32⟩
  | 95 => ⟨S_, .f32⟩
  | 96 => ⟨S4096, .f32⟩
  | 97 => ⟨S4096x1, .f32⟩
  | 98 => ⟨S4096x2048, .f32⟩
  | 99 => ⟨S4096x2048, .f32⟩
  | 100 => ⟨S_, .f32⟩
  | 101 => ⟨S4096, .f32⟩
  | 102 => ⟨S_, .f32⟩
  | 103 => ⟨S4096, .f32⟩
  | 104 => ⟨S4096, .f32⟩
  | 105 => ⟨S4096x1, .f32⟩
  | 106 => ⟨S4096x2048, .f32⟩
  | 107 => ⟨S4096x2048, .f32⟩
  | 108 => ⟨S4096x2048, .f32⟩
  | 109 => ⟨S_, .f32⟩
  | 110 => ⟨S4096, .f32⟩
  | 111 => ⟨S4096x1, .f32⟩
  | 112 => ⟨S4096x1, .f32⟩
  | 113 => ⟨S4096x2048, .f32⟩
  | 114 => ⟨S4096x2048, .f32⟩
  | 115 => ⟨S4096x2048, .f32⟩
  | 116 => ⟨S_, .f32⟩
  | 117 => ⟨S4096, .f32⟩
  | 118 => ⟨S4096, .f32⟩
  | 119 => ⟨S_, .f32⟩
  | 120 => ⟨S_, .f32⟩
  | 121 => ⟨S_, .f32⟩
  | 122 => ⟨S_, .f32⟩
  | 123 => ⟨S_, .f32⟩
  | 124 => ⟨S4096, .f32⟩
  | 125 => ⟨S_, .f32⟩
  | 126 => ⟨S4096, .f32⟩
  | 127 => ⟨S4096, .f32⟩
  | _ => ⟨S4096x3072, .f32⟩

abbrev hbmTy0_5 (i : Nat) : BufTy := match i % 128 with
  | 0 => ⟨S4096x1, .f32⟩
  | 1 => ⟨S4096x2048, .f32⟩
  | 2 => ⟨S4096x2048, .f32⟩
  | 3 => ⟨S4096x2048, .f32⟩
  | 4 => ⟨S_, .f32⟩
  | 5 => ⟨S4096, .f32⟩
  | 6 => ⟨S4096x1, .f32⟩
  | 7 => ⟨S4096x1, .f32⟩
  | 8 => ⟨S4096x2048, .f32⟩
  | 9 => ⟨S4096x2048, .f32⟩
  | 10 => ⟨S4096x2048, .f32⟩
  | 11 => ⟨S4096x2048, .f32⟩
  | 12 => ⟨S4096x2048, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .i32⟩
  | 34 => ⟨S4096x1024, .i32⟩
  | 35 => ⟨S4096x1024, .i32⟩
  | 36 => ⟨S4096x1024, .i32⟩
  | 37 => ⟨S_, .i32⟩
  | 38 => ⟨S4096x1024, .i32⟩
  | 39 => ⟨S4096x1024, .i32⟩
  | 40 => ⟨S4096x1024, .i32⟩
  | 41 => ⟨S_, .i32⟩
  | 42 => ⟨S4096x1024, .i32⟩
  | 43 => ⟨S4096x1024, .i32⟩
  | 44 => ⟨S4096x1024, .i32⟩
  | 45 => ⟨S4096x1024, .i32⟩
  | 46 => ⟨S4096x1x1024, .i32⟩
  | 47 => ⟨S4096x1024x1, .i32⟩
  | 48 => ⟨S4096x1024x1024, .i32⟩
  | 49 => ⟨S4096x1024x1024, .i32⟩
  | 50 => ⟨S4096x1024x1024, .i1⟩
  | 51 => ⟨S4096x1024x1024, .i32⟩
  | 52 => ⟨S_, .i32⟩
  | 53 => ⟨S4096x1024, .i32⟩
  | 54 => ⟨S4096x1x1024, .i32⟩
  | 55 => ⟨S4096x1024x1, .i32⟩
  | 56 => ⟨S4096x1024x1024, .i32⟩
  | 57 => ⟨S4096x1024x1024, .i32⟩
  | 58 => ⟨S4096x1024x1024, .i1⟩
  | 59 => ⟨S4096x1024x1024, .i32⟩
  | 60 => ⟨S_, .i32⟩
  | 61 => ⟨S4096x1024, .i32⟩
  | 62 => ⟨S4096x1024, .i32⟩
  | 63 => ⟨S4096x1024, .f32⟩
  | 64 => ⟨S_, .f32⟩
  | 65 => ⟨S_, .f32⟩
  | 66 => ⟨S4096x1024, .f32⟩
  | 67 => ⟨S_, .f32⟩
  | 68 => ⟨S4096, .f32⟩
  | 69 => ⟨S_, .f32⟩
  | 70 => ⟨S4096, .f32⟩
  | 71 => ⟨S4096, .f32⟩
  | 72 => ⟨S4096, .f32⟩
  | 73 => ⟨S4096, .f32⟩
  | 74 => ⟨S_, .i32⟩
  | 75 => ⟨S4096x1024, .i32⟩
  | 76 => ⟨S4096x1024, .i32⟩
  | 77 => ⟨S4096x1024, .i32⟩
  | 78 => ⟨S4096x1024, .i32⟩
  | 79 => ⟨S4096x1x1024, .i32⟩
  | 80 => ⟨S4096x1024x1, .i32⟩
  | 81 => ⟨S4096x1024x1024, .i32⟩
  | 82 => ⟨S4096x1024x1024, .i32⟩
  | 83 => ⟨S4096x1024x1024, .i1⟩
  | 84 => ⟨S4096x1024x1024, .i32⟩
  | 85 => ⟨S_, .i32⟩
  | 86 => ⟨S4096x1024, .i32⟩
  | 87 => ⟨S4096x1x1024, .i32⟩
  | 88 => ⟨S4096x1024x1, .i32⟩
  | 89 => ⟨S4096x1024x1024, .i32⟩
  | 90 => ⟨S4096x1024x1024, .i32⟩
  | 91 => ⟨S4096x1024x1024, .i1⟩
  | 92 => ⟨S4096x1024x1024, .i32⟩
  | 93 => ⟨S_, .i32⟩
  | 94 => ⟨S4096x1024, .i32⟩
  | 95 => ⟨S4096x1024, .i32⟩
  | 96 => ⟨S4096x1024, .f32⟩
  | 97 => ⟨S_, .f32⟩
  | 98 => ⟨S_, .f32⟩
  | 99 => ⟨S4096x1024, .f32⟩
  | 100 => ⟨S_, .f32⟩
  | 101 => ⟨S4096, .f32⟩
  | 102 => ⟨S_, .f32⟩
  | 103 => ⟨S4096, .f32⟩
  | 104 => ⟨S4096, .f32⟩
  | 105 => ⟨S4096, .f32⟩
  | 106 => ⟨S4096, .f32⟩
  | 107 => ⟨S4096, .f32⟩
  | 108 => ⟨S4096x1024, .i32⟩
  | 109 => ⟨S4096x1x1024, .i32⟩
  | 110 => ⟨S4096x1024x1, .i32⟩
  | 111 => ⟨S4096x1024x1024, .i32⟩
  | 112 => ⟨S4096x1024x1024, .i32⟩
  | 113 => ⟨S4096x1024x1024, .i1⟩
  | 114 => ⟨S4096x1024x1024, .i32⟩
  | 115 => ⟨S_, .i32⟩
  | 116 => ⟨S4096x1024, .i32⟩
  | 117 => ⟨S4096x1x1024, .i32⟩
  | 118 => ⟨S4096x1024x1, .i32⟩
  | 119 => ⟨S4096x1024x1024, .i32⟩
  | 120 => ⟨S4096x1024x1024, .i32⟩
  | 121 => ⟨S4096x1024x1024, .i1⟩
  | 122 => ⟨S4096x1024x1024, .i32⟩
  | 123 => ⟨S_, .i32⟩
  | 124 => ⟨S4096x1024, .i32⟩
  | 125 => ⟨S4096x1024, .i32⟩
  | 126 => ⟨S4096x1024, .f32⟩
  | 127 => ⟨S_, .f32⟩
  | _ => ⟨S4096x3072, .f32⟩

abbrev hbmTy0_6 (i : Nat) : BufTy := match i % 128 with
  | 0 => ⟨S_, .f32⟩
  | 1 => ⟨S4096x1024, .f32⟩
  | 2 => ⟨S_, .f32⟩
  | 3 => ⟨S4096, .f32⟩
  | 4 => ⟨S_, .f32⟩
  | 5 => ⟨S4096, .f32⟩
  | 6 => ⟨S4096, .f32⟩
  | 7 => ⟨S4096, .f32⟩
  | 8 => ⟨S4096, .f32⟩
  | 9 => ⟨S4096, .f32⟩
  | 10 => ⟨S4096x1024, .i32⟩
  | 11 => ⟨S4096x1x1024, .i32⟩
  | 12 => ⟨S4096x1024x1, .i32⟩
  | 13 => ⟨S4096x1024x1024, .i32⟩
  | 14 => ⟨S4096x1024x1024, .i32⟩
  | 15 => ⟨S4096x1024x1024, .i1⟩
  | 16 => ⟨S4096x1024x1024, .i32⟩
  | 17 => ⟨S_, .i32⟩
  | 18 => ⟨S4096x1024, .i32⟩
  | 19 => ⟨S4096x1x1024, .i32⟩
  | 20 => ⟨S4096x1024x1, .i32⟩
  | 21 => ⟨S4096x1024x1024, .i32⟩
  | 22 => ⟨S4096x1024x1024, .i32⟩
  | 23 => ⟨S4096x1024x1024, .i1⟩
  | 24 => ⟨S4096x1024x1024, .i32⟩
  | 25 => ⟨S_, .i32⟩
  | 26 => ⟨S4096x1024, .i32⟩
  | 27 => ⟨S4096x1024, .i32⟩
  | 28 => ⟨S4096x1024, .f32⟩
  | 29 => ⟨S_, .f32⟩
  | 30 => ⟨S_, .f32⟩
  | 31 => ⟨S4096x1024, .f32⟩
  | 32 => ⟨S_, .f32⟩
  | 33 => ⟨S4096, .f32⟩
  | 34 => ⟨S_, .f32⟩
  | 35 => ⟨S4096, .f32⟩
  | 36 => ⟨S4096, .f32⟩
  | 37 => ⟨S4096, .f32⟩
  | 38 => ⟨S4096, .f32⟩
  | 39 => ⟨S4096, .f32⟩
  | 40 => ⟨S_, .f32⟩
  | 41 => ⟨S_, .f32⟩
  | 42 => ⟨S4096x3072, .f32⟩
  | 43 => ⟨S4096x3072, .f32⟩
  | 44 => ⟨S_, .f32⟩
  | 45 => ⟨S4096, .f32⟩
  | 46 => ⟨S_, .f32⟩
  | 47 => ⟨S4096, .f32⟩
  | 48 => ⟨S4096, .f32⟩
  | 49 => ⟨S4096x1, .f32⟩
  | 50 => ⟨S4096x3072, .f32⟩
  | 51 => ⟨S4096x3072, .f32⟩
  | 52 => ⟨S4096x3072, .f32⟩
  | 53 => ⟨S_, .f32⟩
  | 54 => ⟨S4096, .f32⟩
  | 55 => ⟨S4096x1, .f32⟩
  | 56 => ⟨S4096x3072, .f32⟩
  | 57 => ⟨S4096x3072, .f32⟩
  | 58 => ⟨S_, .f32⟩
  | 59 => ⟨S4096, .f32⟩
  | 60 => ⟨S_, .f32⟩
  | 61 => ⟨S4096, .f32⟩
  | 62 => ⟨S4096, .f32⟩
  | 63 => ⟨S4096x1, .f32⟩
  | 64 => ⟨S4096x3072, .f32⟩
  | 65 => ⟨S4096x3072, .f32⟩
  | 66 => ⟨S4096x3072, .f32⟩
  | 67 => ⟨S_, .f32⟩
  | 68 => ⟨S4096, .f32⟩
  | 69 => ⟨S4096x1, .f32⟩
  | 70 => ⟨S4096x1, .f32⟩
  | 71 => ⟨S4096x3072, .f32⟩
  | 72 => ⟨S4096x3072, .f32⟩
  | 73 => ⟨S4096x3072, .f32⟩
  | 74 => ⟨S_, .f32⟩
  | 75 => ⟨S4096, .f32⟩
  | 76 => ⟨S4096, .f32⟩
  | 77 => ⟨S_, .f32⟩
  | 78 => ⟨S_, .f32⟩
  | 79 => ⟨S_, .f32⟩
  | 80 => ⟨S_, .f32⟩
  | 81 => ⟨S_, .f32⟩
  | 82 => ⟨S4096, .f32⟩
  | 83 => ⟨S_, .f32⟩
  | 84 => ⟨S4096, .f32⟩
  | 85 => ⟨S4096, .f32⟩
  | 86 => ⟨S4096x1, .f32⟩
  | 87 => ⟨S4096x3072, .f32⟩
  | 88 => ⟨S4096x3072, .f32⟩
  | 89 => ⟨S4096x3072, .f32⟩
  | 90 => ⟨S_, .f32⟩
  | 91 => ⟨S4096, .f32⟩
  | 92 => ⟨S4096x1, .f32⟩
  | 93 => ⟨S4096x1, .f32⟩
  | 94 => ⟨S4096x3072, .f32⟩
  | 95 => ⟨S4096x3072, .f32⟩
  | 96 => ⟨S4096x3072, .f32⟩
  | 97 => ⟨S4096x3072, .f32⟩
  | 98 => ⟨S4096x3072, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | _ => ⟨S4096x3072, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_c_5 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v14 : Ref sig .tc := ⟨.hbm, 35, rfl⟩
abbrev main_v15 : Ref sig .tc := ⟨.hbm, 36, rfl⟩
abbrev main_cst_6 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_8 : Ref sig .tc := ⟨.hbm, 46, rfl⟩
abbrev main_v23 : Ref sig .tc := ⟨.hbm, 47, rfl⟩
abbrev main_v24 : Ref sig .tc := ⟨.hbm, 48, rfl⟩
abbrev main_c_9 : Ref sig .tc := ⟨.hbm, 49, rfl⟩
abbrev main_c_10 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v25 : Ref sig .tc := ⟨.hbm, 56, rfl⟩
abbrev main_v26 : Ref sig .tc := ⟨.hbm, 57, rfl⟩
abbrev main_cst_11 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_12 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_13 : Ref sig .tc := ⟨.hbm, 67, rfl⟩
abbrev main_v34 : Ref sig .tc := ⟨.hbm, 68, rfl⟩
abbrev main_v35 : Ref sig .tc := ⟨.hbm, 69, rfl⟩
abbrev main_c_14 : Ref sig .tc := ⟨.hbm, 70, rfl⟩
abbrev main_c_15 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_16 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_17 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_18 : Ref sig .tc := ⟨.hbm, 98, rfl⟩
abbrev main_v55 : Ref sig .tc := ⟨.hbm, 99, rfl⟩
abbrev main_v56 : Ref sig .tc := ⟨.hbm, 100, rfl⟩
abbrev main_cst_19 : Ref sig .tc := ⟨.hbm, 101, rfl⟩
abbrev main_v57 : Ref sig .tc := ⟨.hbm, 102, rfl⟩
abbrev main_cst_20 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_21 : Ref sig .tc := ⟨.hbm, 108, rfl⟩
abbrev main_v62 : Ref sig .tc := ⟨.hbm, 109, rfl⟩
abbrev main_cst_22 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_c_23 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_c_24 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_25 : Ref sig .tc := ⟨.hbm, 131, rfl⟩
abbrev main_v81 : Ref sig .tc := ⟨.hbm, 132, rfl⟩
abbrev main_v82 : Ref sig .tc := ⟨.hbm, 133, rfl⟩
abbrev main_cst_26 : Ref sig .tc := ⟨.hbm, 134, rfl⟩
abbrev main_v83 : Ref sig .tc := ⟨.hbm, 135, rfl⟩
abbrev main_cst_27 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_cst_28 : Ref sig .tc := ⟨.hbm, 141, rfl⟩
abbrev main_v88 : Ref sig .tc := ⟨.hbm, 142, rfl⟩
abbrev main_cst_29 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_c_30 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_c_31 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_cst_32 : Ref sig .tc := ⟨.hbm, 164, rfl⟩
abbrev main_v107 : Ref sig .tc := ⟨.hbm, 165, rfl⟩
abbrev main_v108 : Ref sig .tc := ⟨.hbm, 166, rfl⟩
abbrev main_cst_33 : Ref sig .tc := ⟨.hbm, 167, rfl⟩
abbrev main_v109 : Ref sig .tc := ⟨.hbm, 168, rfl⟩
abbrev main_cst_34 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_35 : Ref sig .tc := ⟨.hbm, 174, rfl⟩
abbrev main_v114 : Ref sig .tc := ⟨.hbm, 175, rfl⟩
abbrev main_cst_36 : Ref sig .tc := ⟨.hbm, 176, rfl⟩
abbrev main_v115 : Ref sig .tc := ⟨.hbm, 177, rfl⟩
abbrev main_cst_37 : Ref sig .tc := ⟨.hbm, 178, rfl⟩
abbrev main_v116 : Ref sig .tc := ⟨.hbm, 179, rfl⟩
abbrev main_cst_38 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_cst_39 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_40 : Ref sig .tc := ⟨.hbm, 192, rfl⟩
abbrev main_v127 : Ref sig .tc := ⟨.hbm, 193, rfl⟩
abbrev main_cst_41 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_42 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_43 : Ref sig .tc := ⟨.hbm, 206, rfl⟩
abbrev main_v138 : Ref sig .tc := ⟨.hbm, 207, rfl⟩
abbrev main_cst_44 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_v142 : Ref sig .tc := ⟨.hbm, 212, rfl⟩
abbrev main_v143 : Ref sig .tc := ⟨.hbm, 213, rfl⟩
abbrev main_v144 : Ref sig .tc := ⟨.hbm, 214, rfl⟩
abbrev main_cst_45 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_call6_cst : Ref sig .tc := ⟨.hbm, 220, rfl⟩
abbrev main_call6_v0 : Ref sig .tc := ⟨.hbm, 221, rfl⟩
abbrev main_call6_cst_0 : Ref sig .tc := ⟨.hbm, 222, rfl⟩
abbrev main_call6_v1 : Ref sig .tc := ⟨.hbm, 223, rfl⟩
abbrev main_call6_v2 : Ref sig .tc := ⟨.hbm, 224, rfl⟩
abbrev main_call6_v3 : Ref sig .tc := ⟨.hbm, 225, rfl⟩
abbrev main_call6_v4 : Ref sig .tc := ⟨.hbm, 226, rfl⟩
abbrev main_call6_v5 : Ref sig .tc := ⟨.hbm, 227, rfl⟩
abbrev main_call6_v6 : Ref sig .tc := ⟨.hbm, 228, rfl⟩
abbrev main_call6_cst_1 : Ref sig .tc := ⟨.hbm, 229, rfl⟩
abbrev main_call6_v7 : Ref sig .tc := ⟨.hbm, 230, rfl⟩
abbrev main_call6_v8 : Ref sig .tc := ⟨.hbm, 231, rfl⟩
abbrev main_call6_v9 : Ref sig .tc := ⟨.hbm, 232, rfl⟩
abbrev main_call6_v10 : Ref sig .tc := ⟨.hbm, 233, rfl⟩
abbrev main_v149 : Ref sig .tc := ⟨.hbm, 234, rfl⟩
abbrev main_v150 : Ref sig .tc := ⟨.hbm, 235, rfl⟩
abbrev main_cst_46 : Ref sig .tc := ⟨.hbm, 236, rfl⟩
abbrev main_v151 : Ref sig .tc := ⟨.hbm, 237, rfl⟩
abbrev main_v152 : Ref sig .tc := ⟨.hbm, 238, rfl⟩
abbrev main_cst_47 : Ref sig .tc := ⟨.hbm, 239, rfl⟩
abbrev main_v153 : Ref sig .tc := ⟨.hbm, 240, rfl⟩
abbrev main_cst_48 : Ref sig .tc := ⟨.hbm, 241, rfl⟩
abbrev main_v154 : Ref sig .tc := ⟨.hbm, 242, rfl⟩
abbrev main_call7_cst : Ref sig .tc := ⟨.hbm, 243, rfl⟩
abbrev main_call7_v0 : Ref sig .tc := ⟨.hbm, 244, rfl⟩
abbrev main_call7_cst_0 : Ref sig .tc := ⟨.hbm, 245, rfl⟩
abbrev main_call7_v1 : Ref sig .tc := ⟨.hbm, 246, rfl⟩
abbrev main_call7_v2 : Ref sig .tc := ⟨.hbm, 247, rfl⟩
abbrev main_call7_v3 : Ref sig .tc := ⟨.hbm, 248, rfl⟩
abbrev main_call7_v4 : Ref sig .tc := ⟨.hbm, 249, rfl⟩
abbrev main_call7_v5 : Ref sig .tc := ⟨.hbm, 250, rfl⟩
abbrev main_call7_v6 : Ref sig .tc := ⟨.hbm, 251, rfl⟩
abbrev main_call7_cst_1 : Ref sig .tc := ⟨.hbm, 252, rfl⟩
abbrev main_call7_v7 : Ref sig .tc := ⟨.hbm, 253, rfl⟩
abbrev main_call7_v8 : Ref sig .tc := ⟨.hbm, 254, rfl⟩
abbrev main_call7_v9 : Ref sig .tc := ⟨.hbm, 255, rfl⟩
abbrev main_call7_v10 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_cst_49 : Ref sig .tc := ⟨.hbm, 261, rfl⟩
abbrev main_v159 : Ref sig .tc := ⟨.hbm, 262, rfl⟩
abbrev main_cst_50 : Ref sig .tc := ⟨.hbm, 263, rfl⟩
abbrev main_v160 : Ref sig .tc := ⟨.hbm, 264, rfl⟩
abbrev main_v161 : Ref sig .tc := ⟨.hbm, 265, rfl⟩
abbrev main_call8_cst : Ref sig .tc := ⟨.hbm, 266, rfl⟩
abbrev main_call8_v0 : Ref sig .tc := ⟨.hbm, 267, rfl⟩
abbrev main_call8_cst_0 : Ref sig .tc := ⟨.hbm, 268, rfl⟩
abbrev main_call8_v1 : Ref sig .tc := ⟨.hbm, 269, rfl⟩
abbrev main_call8_v2 : Ref sig .tc := ⟨.hbm, 270, rfl⟩
abbrev main_call8_v3 : Ref sig .tc := ⟨.hbm, 271, rfl⟩
abbrev main_call8_v4 : Ref sig .tc := ⟨.hbm, 272, rfl⟩
abbrev main_call8_v5 : Ref sig .tc := ⟨.hbm, 273, rfl⟩
abbrev main_call8_v6 : Ref sig .tc := ⟨.hbm, 274, rfl⟩
abbrev main_call8_cst_1 : Ref sig .tc := ⟨.hbm, 275, rfl⟩
abbrev main_call8_v7 : Ref sig .tc := ⟨.hbm, 276, rfl⟩
abbrev main_call8_v8 : Ref sig .tc := ⟨.hbm, 277, rfl⟩
abbrev main_call8_v9 : Ref sig .tc := ⟨.hbm, 278, rfl⟩
abbrev main_call8_v10 : Ref sig .tc := ⟨.hbm, 279, rfl⟩
abbrev main_v162 : Ref sig .tc := ⟨.hbm, 280, rfl⟩
abbrev main_v163 : Ref sig .tc := ⟨.hbm, 281, rfl⟩
abbrev main_cst_51 : Ref sig .tc := ⟨.hbm, 282, rfl⟩
abbrev main_v164 : Ref sig .tc := ⟨.hbm, 283, rfl⟩
abbrev main_v165 : Ref sig .tc := ⟨.hbm, 284, rfl⟩
abbrev main_cst_52 : Ref sig .tc := ⟨.hbm, 285, rfl⟩
abbrev main_v166 : Ref sig .tc := ⟨.hbm, 286, rfl⟩
abbrev main_cst_53 : Ref sig .tc := ⟨.hbm, 287, rfl⟩
abbrev main_v167 : Ref sig .tc := ⟨.hbm, 288, rfl⟩
abbrev main_call9_cst : Ref sig .tc := ⟨.hbm, 289, rfl⟩
abbrev main_call9_v0 : Ref sig .tc := ⟨.hbm, 290, rfl⟩
abbrev main_call9_cst_0 : Ref sig .tc := ⟨.hbm, 291, rfl⟩
abbrev main_call9_v1 : Ref sig .tc := ⟨.hbm, 292, rfl⟩
abbrev main_call9_v2 : Ref sig .tc := ⟨.hbm, 293, rfl⟩
abbrev main_call9_v3 : Ref sig .tc := ⟨.hbm, 294, rfl⟩
abbrev main_call9_v4 : Ref sig .tc := ⟨.hbm, 295, rfl⟩
abbrev main_call9_v5 : Ref sig .tc := ⟨.hbm, 296, rfl⟩
abbrev main_call9_v6 : Ref sig .tc := ⟨.hbm, 297, rfl⟩
abbrev main_call9_cst_1 : Ref sig .tc := ⟨.hbm, 298, rfl⟩
abbrev main_call9_v7 : Ref sig .tc := ⟨.hbm, 299, rfl⟩
abbrev main_call9_v8 : Ref sig .tc := ⟨.hbm, 300, rfl⟩
abbrev main_call9_v9 : Ref sig .tc := ⟨.hbm, 301, rfl⟩
abbrev main_call9_v10 : Ref sig .tc := ⟨.hbm, 302, rfl⟩
abbrev main_v168 : Ref sig .tc := ⟨.hbm, 303, rfl⟩
abbrev main_v169 : Ref sig .tc := ⟨.hbm, 304, rfl⟩
abbrev main_v170 : Ref sig .tc := ⟨.hbm, 305, rfl⟩
abbrev main_v171 : Ref sig .tc := ⟨.hbm, 306, rfl⟩
abbrev main_cst_54 : Ref sig .tc := ⟨.hbm, 307, rfl⟩
abbrev main_v172 : Ref sig .tc := ⟨.hbm, 308, rfl⟩
abbrev main_cst_55 : Ref sig .tc := ⟨.hbm, 309, rfl⟩
abbrev main_v173 : Ref sig .tc := ⟨.hbm, 310, rfl⟩
abbrev main_v174 : Ref sig .tc := ⟨.hbm, 311, rfl⟩
abbrev main_call10_cst : Ref sig .tc := ⟨.hbm, 312, rfl⟩
abbrev main_call10_v0 : Ref sig .tc := ⟨.hbm, 313, rfl⟩
abbrev main_call10_cst_0 : Ref sig .tc := ⟨.hbm, 314, rfl⟩
abbrev main_call10_v1 : Ref sig .tc := ⟨.hbm, 315, rfl⟩
abbrev main_call10_v2 : Ref sig .tc := ⟨.hbm, 316, rfl⟩
abbrev main_call10_v3 : Ref sig .tc := ⟨.hbm, 317, rfl⟩
abbrev main_call10_v4 : Ref sig .tc := ⟨.hbm, 318, rfl⟩
abbrev main_call10_v5 : Ref sig .tc := ⟨.hbm, 319, rfl⟩
abbrev main_call10_v6 : Ref sig .tc := ⟨.hbm, 320, rfl⟩
abbrev main_call10_cst_1 : Ref sig .tc := ⟨.hbm, 321, rfl⟩
abbrev main_call10_v7 : Ref sig .tc := ⟨.hbm, 322, rfl⟩
abbrev main_call10_v8 : Ref sig .tc := ⟨.hbm, 323, rfl⟩
abbrev main_call10_v9 : Ref sig .tc := ⟨.hbm, 324, rfl⟩
abbrev main_call10_v10 : Ref sig .tc := ⟨.hbm, 325, rfl⟩
abbrev main_v175 : Ref sig .tc := ⟨.hbm, 326, rfl⟩
abbrev main_v176 : Ref sig .tc := ⟨.hbm, 327, rfl⟩
abbrev main_cst_56 : Ref sig .tc := ⟨.hbm, 328, rfl⟩
abbrev main_v177 : Ref sig .tc := ⟨.hbm, 329, rfl⟩
abbrev main_v178 : Ref sig .tc := ⟨.hbm, 330, rfl⟩
abbrev main_cst_57 : Ref sig .tc := ⟨.hbm, 331, rfl⟩
abbrev main_v179 : Ref sig .tc := ⟨.hbm, 332, rfl⟩
abbrev main_cst_58 : Ref sig .tc := ⟨.hbm, 333, rfl⟩
abbrev main_v180 : Ref sig .tc := ⟨.hbm, 334, rfl⟩
abbrev main_call11_cst : Ref sig .tc := ⟨.hbm, 335, rfl⟩
abbrev main_call11_v0 : Ref sig .tc := ⟨.hbm, 336, rfl⟩
abbrev main_call11_cst_0 : Ref sig .tc := ⟨.hbm, 337, rfl⟩
abbrev main_call11_v1 : Ref sig .tc := ⟨.hbm, 338, rfl⟩
abbrev main_call11_v2 : Ref sig .tc := ⟨.hbm, 339, rfl⟩
abbrev main_call11_v3 : Ref sig .tc := ⟨.hbm, 340, rfl⟩
abbrev main_call11_v4 : Ref sig .tc := ⟨.hbm, 341, rfl⟩
abbrev main_call11_v5 : Ref sig .tc := ⟨.hbm, 342, rfl⟩
abbrev main_call11_v6 : Ref sig .tc := ⟨.hbm, 343, rfl⟩
abbrev main_call11_cst_1 : Ref sig .tc := ⟨.hbm, 344, rfl⟩
abbrev main_call11_v7 : Ref sig .tc := ⟨.hbm, 345, rfl⟩
abbrev main_call11_v8 : Ref sig .tc := ⟨.hbm, 346, rfl⟩
abbrev main_call11_v9 : Ref sig .tc := ⟨.hbm, 347, rfl⟩
abbrev main_call11_v10 : Ref sig .tc := ⟨.hbm, 348, rfl⟩
abbrev main_v181 : Ref sig .tc := ⟨.hbm, 349, rfl⟩
abbrev main_v182 : Ref sig .tc := ⟨.hbm, 350, rfl⟩
abbrev main_v183 : Ref sig .tc := ⟨.hbm, 351, rfl⟩
abbrev main_v184 : Ref sig .tc := ⟨.hbm, 352, rfl⟩
abbrev main_cst_59 : Ref sig .tc := ⟨.hbm, 353, rfl⟩
abbrev main_v185 : Ref sig .tc := ⟨.hbm, 354, rfl⟩
abbrev main_cst_60 : Ref sig .tc := ⟨.hbm, 355, rfl⟩
abbrev main_v186 : Ref sig .tc := ⟨.hbm, 356, rfl⟩
abbrev main_v187 : Ref sig .tc := ⟨.hbm, 357, rfl⟩
abbrev main_v188 : Ref sig .tc := ⟨.hbm, 358, rfl⟩
abbrev main_v189 : Ref sig .tc := ⟨.hbm, 359, rfl⟩
abbrev main_v190 : Ref sig .tc := ⟨.hbm, 360, rfl⟩
abbrev main_c_61 : Ref sig .tc := ⟨.hbm, 361, rfl⟩
abbrev main_v191 : Ref sig .tc := ⟨.hbm, 362, rfl⟩
abbrev main_v192 : Ref sig .tc := ⟨.hbm, 363, rfl⟩
abbrev main_v193 : Ref sig .tc := ⟨.hbm, 364, rfl⟩
abbrev main_v194 : Ref sig .tc := ⟨.hbm, 365, rfl⟩
abbrev main_v195 : Ref sig .tc := ⟨.hbm, 366, rfl⟩
abbrev main_v196 : Ref sig .tc := ⟨.hbm, 367, rfl⟩
abbrev main_v197 : Ref sig .tc := ⟨.hbm, 368, rfl⟩
abbrev main_v198 : Ref sig .tc := ⟨.hbm, 369, rfl⟩
abbrev main_v199 : Ref sig .tc := ⟨.hbm, 370, rfl⟩
abbrev main_v200 : Ref sig .tc := ⟨.hbm, 371, rfl⟩
abbrev main_c_62 : Ref sig .tc := ⟨.hbm, 372, rfl⟩
abbrev main_v201 : Ref sig .tc := ⟨.hbm, 373, rfl⟩
abbrev main_v202 : Ref sig .tc := ⟨.hbm, 374, rfl⟩
abbrev main_v203 : Ref sig .tc := ⟨.hbm, 375, rfl⟩
abbrev main_v204 : Ref sig .tc := ⟨.hbm, 376, rfl⟩
abbrev main_v205 : Ref sig .tc := ⟨.hbm, 377, rfl⟩
abbrev main_v206 : Ref sig .tc := ⟨.hbm, 378, rfl⟩
abbrev main_v207 : Ref sig .tc := ⟨.hbm, 379, rfl⟩
abbrev main_c_63 : Ref sig .tc := ⟨.hbm, 380, rfl⟩
abbrev main_v208 : Ref sig .tc := ⟨.hbm, 381, rfl⟩
abbrev main_v209 : Ref sig .tc := ⟨.hbm, 382, rfl⟩
abbrev main_v210 : Ref sig .tc := ⟨.hbm, 383, rfl⟩
abbrev main_cst_64 : Ref sig .tc := ⟨.hbm, 384, rfl⟩
abbrev main_v211 : Ref sig .tc := ⟨.hbm, 385, rfl⟩
abbrev main_v212 : Ref sig .tc := ⟨.hbm, 386, rfl⟩
abbrev main_cst_65 : Ref sig .tc := ⟨.hbm, 387, rfl⟩
abbrev main_v213 : Ref sig .tc := ⟨.hbm, 388, rfl⟩
abbrev main_cst_66 : Ref sig .tc := ⟨.hbm, 389, rfl⟩
abbrev main_v214 : Ref sig .tc := ⟨.hbm, 390, rfl⟩
abbrev main_v215 : Ref sig .tc := ⟨.hbm, 391, rfl⟩
abbrev main_v216 : Ref sig .tc := ⟨.hbm, 392, rfl⟩
abbrev main_v217 : Ref sig .tc := ⟨.hbm, 393, rfl⟩
abbrev main_cst_67 : Ref sig .tc := ⟨.hbm, 394, rfl⟩
abbrev main_v218 : Ref sig .tc := ⟨.hbm, 395, rfl⟩
abbrev main_cst_68 : Ref sig .tc := ⟨.hbm, 396, rfl⟩
abbrev main_v219 : Ref sig .tc := ⟨.hbm, 397, rfl⟩
abbrev main_c_69 : Ref sig .tc := ⟨.hbm, 398, rfl⟩
abbrev main_v220 : Ref sig .tc := ⟨.hbm, 399, rfl⟩
abbrev main_v221 : Ref sig .tc := ⟨.hbm, 400, rfl⟩
abbrev main_v222 : Ref sig .tc := ⟨.hbm, 401, rfl⟩
abbrev main_v223 : Ref sig .tc := ⟨.hbm, 402, rfl⟩
abbrev main_v224 : Ref sig .tc := ⟨.hbm, 403, rfl⟩
abbrev main_v225 : Ref sig .tc := ⟨.hbm, 404, rfl⟩
abbrev main_v226 : Ref sig .tc := ⟨.hbm, 405, rfl⟩
abbrev main_v227 : Ref sig .tc := ⟨.hbm, 406, rfl⟩
abbrev main_v228 : Ref sig .tc := ⟨.hbm, 407, rfl⟩
abbrev main_v229 : Ref sig .tc := ⟨.hbm, 408, rfl⟩
abbrev main_c_70 : Ref sig .tc := ⟨.hbm, 409, rfl⟩
abbrev main_v230 : Ref sig .tc := ⟨.hbm, 410, rfl⟩
abbrev main_v231 : Ref sig .tc := ⟨.hbm, 411, rfl⟩
abbrev main_v232 : Ref sig .tc := ⟨.hbm, 412, rfl⟩
abbrev main_v233 : Ref sig .tc := ⟨.hbm, 413, rfl⟩
abbrev main_v234 : Ref sig .tc := ⟨.hbm, 414, rfl⟩
abbrev main_v235 : Ref sig .tc := ⟨.hbm, 415, rfl⟩
abbrev main_v236 : Ref sig .tc := ⟨.hbm, 416, rfl⟩
abbrev main_c_71 : Ref sig .tc := ⟨.hbm, 417, rfl⟩
abbrev main_v237 : Ref sig .tc := ⟨.hbm, 418, rfl⟩
abbrev main_v238 : Ref sig .tc := ⟨.hbm, 419, rfl⟩
abbrev main_v239 : Ref sig .tc := ⟨.hbm, 420, rfl⟩
abbrev main_cst_72 : Ref sig .tc := ⟨.hbm, 421, rfl⟩
abbrev main_v240 : Ref sig .tc := ⟨.hbm, 422, rfl⟩
abbrev main_v241 : Ref sig .tc := ⟨.hbm, 423, rfl⟩
abbrev main_cst_73 : Ref sig .tc := ⟨.hbm, 424, rfl⟩
abbrev main_v242 : Ref sig .tc := ⟨.hbm, 425, rfl⟩
abbrev main_cst_74 : Ref sig .tc := ⟨.hbm, 426, rfl⟩
abbrev main_v243 : Ref sig .tc := ⟨.hbm, 427, rfl⟩
abbrev main_v244 : Ref sig .tc := ⟨.hbm, 428, rfl⟩
abbrev main_v245 : Ref sig .tc := ⟨.hbm, 429, rfl⟩
abbrev main_v246 : Ref sig .tc := ⟨.hbm, 430, rfl⟩
abbrev main_cst_75 : Ref sig .tc := ⟨.hbm, 431, rfl⟩
abbrev main_v247 : Ref sig .tc := ⟨.hbm, 432, rfl⟩
abbrev main_cst_76 : Ref sig .tc := ⟨.hbm, 433, rfl⟩
abbrev main_v248 : Ref sig .tc := ⟨.hbm, 434, rfl⟩
abbrev main_c_77 : Ref sig .tc := ⟨.hbm, 435, rfl⟩
abbrev main_v249 : Ref sig .tc := ⟨.hbm, 436, rfl⟩
abbrev main_v250 : Ref sig .tc := ⟨.hbm, 437, rfl⟩
abbrev main_v251 : Ref sig .tc := ⟨.hbm, 438, rfl⟩
abbrev main_v252 : Ref sig .tc := ⟨.hbm, 439, rfl⟩
abbrev main_v253 : Ref sig .tc := ⟨.hbm, 440, rfl⟩
abbrev main_v254 : Ref sig .tc := ⟨.hbm, 441, rfl⟩
abbrev main_v255 : Ref sig .tc := ⟨.hbm, 442, rfl⟩
abbrev main_v256 : Ref sig .tc := ⟨.hbm, 443, rfl⟩
abbrev main_v257 : Ref sig .tc := ⟨.hbm, 444, rfl⟩
abbrev main_v258 : Ref sig .tc := ⟨.hbm, 445, rfl⟩
abbrev main_c_78 : Ref sig .tc := ⟨.hbm, 446, rfl⟩
abbrev main_v259 : Ref sig .tc := ⟨.hbm, 447, rfl⟩
abbrev main_v260 : Ref sig .tc := ⟨.hbm, 448, rfl⟩
abbrev main_v261 : Ref sig .tc := ⟨.hbm, 449, rfl⟩
abbrev main_v262 : Ref sig .tc := ⟨.hbm, 450, rfl⟩
abbrev main_v263 : Ref sig .tc := ⟨.hbm, 451, rfl⟩
abbrev main_v264 : Ref sig .tc := ⟨.hbm, 452, rfl⟩
abbrev main_v265 : Ref sig .tc := ⟨.hbm, 453, rfl⟩
abbrev main_c_79 : Ref sig .tc := ⟨.hbm, 454, rfl⟩
abbrev main_v266 : Ref sig .tc := ⟨.hbm, 455, rfl⟩
abbrev main_v267 : Ref sig .tc := ⟨.hbm, 456, rfl⟩
abbrev main_v268 : Ref sig .tc := ⟨.hbm, 457, rfl⟩
abbrev main_cst_80 : Ref sig .tc := ⟨.hbm, 458, rfl⟩
abbrev main_v269 : Ref sig .tc := ⟨.hbm, 459, rfl⟩
abbrev main_v270 : Ref sig .tc := ⟨.hbm, 460, rfl⟩
abbrev main_cst_81 : Ref sig .tc := ⟨.hbm, 461, rfl⟩
abbrev main_v271 : Ref sig .tc := ⟨.hbm, 462, rfl⟩
abbrev main_cst_82 : Ref sig .tc := ⟨.hbm, 463, rfl⟩
abbrev main_v272 : Ref sig .tc := ⟨.hbm, 464, rfl⟩
abbrev main_v273 : Ref sig .tc := ⟨.hbm, 465, rfl⟩
abbrev main_v274 : Ref sig .tc := ⟨.hbm, 466, rfl⟩
abbrev main_v275 : Ref sig .tc := ⟨.hbm, 467, rfl⟩
abbrev main_cst_83 : Ref sig .tc := ⟨.hbm, 468, rfl⟩
abbrev main_v276 : Ref sig .tc := ⟨.hbm, 469, rfl⟩
abbrev main_cst_84 : Ref sig .tc := ⟨.hbm, 470, rfl⟩
abbrev main_v277 : Ref sig .tc := ⟨.hbm, 471, rfl⟩
abbrev main_v278 : Ref sig .tc := ⟨.hbm, 472, rfl⟩
abbrev main_v279 : Ref sig .tc := ⟨.hbm, 473, rfl⟩
abbrev main_cst_85 : Ref sig .tc := ⟨.hbm, 474, rfl⟩
abbrev main_v280 : Ref sig .tc := ⟨.hbm, 475, rfl⟩
abbrev main_cst_86 : Ref sig .tc := ⟨.hbm, 476, rfl⟩
abbrev main_v281 : Ref sig .tc := ⟨.hbm, 477, rfl⟩
abbrev main_v282 : Ref sig .tc := ⟨.hbm, 478, rfl⟩
abbrev main_v283 : Ref sig .tc := ⟨.hbm, 479, rfl⟩
abbrev main_v284 : Ref sig .tc := ⟨.hbm, 480, rfl⟩
abbrev main_v285 : Ref sig .tc := ⟨.hbm, 481, rfl⟩
abbrev main_v286 : Ref sig .tc := ⟨.hbm, 482, rfl⟩
abbrev main_cst_87 : Ref sig .tc := ⟨.hbm, 483, rfl⟩
abbrev main_v287 : Ref sig .tc := ⟨.hbm, 484, rfl⟩
abbrev main_v288 : Ref sig .tc := ⟨.hbm, 485, rfl⟩
abbrev main_v289 : Ref sig .tc := ⟨.hbm, 486, rfl⟩
abbrev main_v290 : Ref sig .tc := ⟨.hbm, 487, rfl⟩
abbrev main_call15_cst : Ref sig .tc := ⟨.hbm, 488, rfl⟩
abbrev main_call15_v0 : Ref sig .tc := ⟨.hbm, 489, rfl⟩
abbrev main_call15_cst_0 : Ref sig .tc := ⟨.hbm, 490, rfl⟩
abbrev main_call15_v1 : Ref sig .tc := ⟨.hbm, 491, rfl⟩
abbrev main_call15_v2 : Ref sig .tc := ⟨.hbm, 492, rfl⟩
abbrev main_call15_v3 : Ref sig .tc := ⟨.hbm, 493, rfl⟩
abbrev main_call15_v4 : Ref sig .tc := ⟨.hbm, 494, rfl⟩
abbrev main_call15_v5 : Ref sig .tc := ⟨.hbm, 495, rfl⟩
abbrev main_call15_v6 : Ref sig .tc := ⟨.hbm, 496, rfl⟩
abbrev main_call15_cst_1 : Ref sig .tc := ⟨.hbm, 497, rfl⟩
abbrev main_call15_v7 : Ref sig .tc := ⟨.hbm, 498, rfl⟩
abbrev main_call15_v8 : Ref sig .tc := ⟨.hbm, 499, rfl⟩
abbrev main_call15_v9 : Ref sig .tc := ⟨.hbm, 500, rfl⟩
abbrev main_call15_v10 : Ref sig .tc := ⟨.hbm, 501, rfl⟩
abbrev main_v291 : Ref sig .tc := ⟨.hbm, 502, rfl⟩
abbrev main_v292 : Ref sig .tc := ⟨.hbm, 503, rfl⟩
abbrev main_cst_88 : Ref sig .tc := ⟨.hbm, 504, rfl⟩
abbrev main_v293 : Ref sig .tc := ⟨.hbm, 505, rfl⟩
abbrev main_v294 : Ref sig .tc := ⟨.hbm, 506, rfl⟩
abbrev main_cst_89 : Ref sig .tc := ⟨.hbm, 507, rfl⟩
abbrev main_v295 : Ref sig .tc := ⟨.hbm, 508, rfl⟩
abbrev main_cst_90 : Ref sig .tc := ⟨.hbm, 509, rfl⟩
abbrev main_v296 : Ref sig .tc := ⟨.hbm, 510, rfl⟩
abbrev main_call16_cst : Ref sig .tc := ⟨.hbm, 511, rfl⟩
abbrev main_call16_v0 : Ref sig .tc := ⟨.hbm, 512, rfl⟩
abbrev main_call16_cst_0 : Ref sig .tc := ⟨.hbm, 513, rfl⟩
abbrev main_call16_v1 : Ref sig .tc := ⟨.hbm, 514, rfl⟩
abbrev main_call16_v2 : Ref sig .tc := ⟨.hbm, 515, rfl⟩
abbrev main_call16_v3 : Ref sig .tc := ⟨.hbm, 516, rfl⟩
abbrev main_call16_v4 : Ref sig .tc := ⟨.hbm, 517, rfl⟩
abbrev main_call16_v5 : Ref sig .tc := ⟨.hbm, 518, rfl⟩
abbrev main_call16_v6 : Ref sig .tc := ⟨.hbm, 519, rfl⟩
abbrev main_call16_cst_1 : Ref sig .tc := ⟨.hbm, 520, rfl⟩
abbrev main_call16_v7 : Ref sig .tc := ⟨.hbm, 521, rfl⟩
abbrev main_call16_v8 : Ref sig .tc := ⟨.hbm, 522, rfl⟩
abbrev main_call16_v9 : Ref sig .tc := ⟨.hbm, 523, rfl⟩
abbrev main_call16_v10 : Ref sig .tc := ⟨.hbm, 524, rfl⟩
abbrev main_v297 : Ref sig .tc := ⟨.hbm, 525, rfl⟩
abbrev main_v298 : Ref sig .tc := ⟨.hbm, 526, rfl⟩
abbrev main_v299 : Ref sig .tc := ⟨.hbm, 527, rfl⟩
abbrev main_v300 : Ref sig .tc := ⟨.hbm, 528, rfl⟩
abbrev main_cst_91 : Ref sig .tc := ⟨.hbm, 529, rfl⟩
abbrev main_v301 : Ref sig .tc := ⟨.hbm, 530, rfl⟩
abbrev main_cst_92 : Ref sig .tc := ⟨.hbm, 531, rfl⟩
abbrev main_v302 : Ref sig .tc := ⟨.hbm, 532, rfl⟩
abbrev main_v303 : Ref sig .tc := ⟨.hbm, 533, rfl⟩
abbrev main_v304 : Ref sig .tc := ⟨.hbm, 534, rfl⟩
abbrev main_v305 : Ref sig .tc := ⟨.hbm, 535, rfl⟩
abbrev main_cst_93 : Ref sig .tc := ⟨.hbm, 536, rfl⟩
abbrev main_v306 : Ref sig .tc := ⟨.hbm, 537, rfl⟩
abbrev main_cst_94 : Ref sig .tc := ⟨.hbm, 538, rfl⟩
abbrev main_v307 : Ref sig .tc := ⟨.hbm, 539, rfl⟩
abbrev main_v308 : Ref sig .tc := ⟨.hbm, 540, rfl⟩
abbrev main_v309 : Ref sig .tc := ⟨.hbm, 541, rfl⟩
abbrev main_v310 : Ref sig .tc := ⟨.hbm, 542, rfl⟩
abbrev main_v311 : Ref sig .tc := ⟨.hbm, 543, rfl⟩
abbrev main_v312 : Ref sig .tc := ⟨.hbm, 544, rfl⟩
abbrev main_cst_95 : Ref sig .tc := ⟨.hbm, 545, rfl⟩
abbrev main_v313 : Ref sig .tc := ⟨.hbm, 546, rfl⟩
abbrev main_v314 : Ref sig .tc := ⟨.hbm, 547, rfl⟩
abbrev main_v315 : Ref sig .tc := ⟨.hbm, 548, rfl⟩
abbrev main_v316 : Ref sig .tc := ⟨.hbm, 549, rfl⟩
abbrev main_call17_cst : Ref sig .tc := ⟨.hbm, 550, rfl⟩
abbrev main_call17_v0 : Ref sig .tc := ⟨.hbm, 551, rfl⟩
abbrev main_call17_cst_0 : Ref sig .tc := ⟨.hbm, 552, rfl⟩
abbrev main_call17_v1 : Ref sig .tc := ⟨.hbm, 553, rfl⟩
abbrev main_call17_v2 : Ref sig .tc := ⟨.hbm, 554, rfl⟩
abbrev main_call17_v3 : Ref sig .tc := ⟨.hbm, 555, rfl⟩
abbrev main_call17_v4 : Ref sig .tc := ⟨.hbm, 556, rfl⟩
abbrev main_call17_v5 : Ref sig .tc := ⟨.hbm, 557, rfl⟩
abbrev main_call17_v6 : Ref sig .tc := ⟨.hbm, 558, rfl⟩
abbrev main_call17_cst_1 : Ref sig .tc := ⟨.hbm, 559, rfl⟩
abbrev main_call17_v7 : Ref sig .tc := ⟨.hbm, 560, rfl⟩
abbrev main_call17_v8 : Ref sig .tc := ⟨.hbm, 561, rfl⟩
abbrev main_call17_v9 : Ref sig .tc := ⟨.hbm, 562, rfl⟩
abbrev main_call17_v10 : Ref sig .tc := ⟨.hbm, 563, rfl⟩
abbrev main_v317 : Ref sig .tc := ⟨.hbm, 564, rfl⟩
abbrev main_v318 : Ref sig .tc := ⟨.hbm, 565, rfl⟩
abbrev main_cst_96 : Ref sig .tc := ⟨.hbm, 566, rfl⟩
abbrev main_v319 : Ref sig .tc := ⟨.hbm, 567, rfl⟩
abbrev main_v320 : Ref sig .tc := ⟨.hbm, 568, rfl⟩
abbrev main_cst_97 : Ref sig .tc := ⟨.hbm, 569, rfl⟩
abbrev main_v321 : Ref sig .tc := ⟨.hbm, 570, rfl⟩
abbrev main_cst_98 : Ref sig .tc := ⟨.hbm, 571, rfl⟩
abbrev main_v322 : Ref sig .tc := ⟨.hbm, 572, rfl⟩
abbrev main_call18_cst : Ref sig .tc := ⟨.hbm, 573, rfl⟩
abbrev main_call18_v0 : Ref sig .tc := ⟨.hbm, 574, rfl⟩
abbrev main_call18_cst_0 : Ref sig .tc := ⟨.hbm, 575, rfl⟩
abbrev main_call18_v1 : Ref sig .tc := ⟨.hbm, 576, rfl⟩
abbrev main_call18_v2 : Ref sig .tc := ⟨.hbm, 577, rfl⟩
abbrev main_call18_v3 : Ref sig .tc := ⟨.hbm, 578, rfl⟩
abbrev main_call18_v4 : Ref sig .tc := ⟨.hbm, 579, rfl⟩
abbrev main_call18_v5 : Ref sig .tc := ⟨.hbm, 580, rfl⟩
abbrev main_call18_v6 : Ref sig .tc := ⟨.hbm, 581, rfl⟩
abbrev main_call18_cst_1 : Ref sig .tc := ⟨.hbm, 582, rfl⟩
abbrev main_call18_v7 : Ref sig .tc := ⟨.hbm, 583, rfl⟩
abbrev main_call18_v8 : Ref sig .tc := ⟨.hbm, 584, rfl⟩
abbrev main_call18_v9 : Ref sig .tc := ⟨.hbm, 585, rfl⟩
abbrev main_call18_v10 : Ref sig .tc := ⟨.hbm, 586, rfl⟩
abbrev main_v323 : Ref sig .tc := ⟨.hbm, 587, rfl⟩
abbrev main_v324 : Ref sig .tc := ⟨.hbm, 588, rfl⟩
abbrev main_v325 : Ref sig .tc := ⟨.hbm, 589, rfl⟩
abbrev main_v326 : Ref sig .tc := ⟨.hbm, 590, rfl⟩
abbrev main_cst_99 : Ref sig .tc := ⟨.hbm, 591, rfl⟩
abbrev main_v327 : Ref sig .tc := ⟨.hbm, 592, rfl⟩
abbrev main_cst_100 : Ref sig .tc := ⟨.hbm, 593, rfl⟩
abbrev main_v328 : Ref sig .tc := ⟨.hbm, 594, rfl⟩
abbrev main_v329 : Ref sig .tc := ⟨.hbm, 595, rfl⟩
abbrev main_v330 : Ref sig .tc := ⟨.hbm, 596, rfl⟩
abbrev main_v331 : Ref sig .tc := ⟨.hbm, 597, rfl⟩
abbrev main_cst_101 : Ref sig .tc := ⟨.hbm, 598, rfl⟩
abbrev main_v332 : Ref sig .tc := ⟨.hbm, 599, rfl⟩
abbrev main_cst_102 : Ref sig .tc := ⟨.hbm, 600, rfl⟩
abbrev main_v333 : Ref sig .tc := ⟨.hbm, 601, rfl⟩
abbrev main_v334 : Ref sig .tc := ⟨.hbm, 602, rfl⟩
abbrev main_v335 : Ref sig .tc := ⟨.hbm, 603, rfl⟩
abbrev main_v336 : Ref sig .tc := ⟨.hbm, 604, rfl⟩
abbrev main_v337 : Ref sig .tc := ⟨.hbm, 605, rfl⟩
abbrev main_v338 : Ref sig .tc := ⟨.hbm, 606, rfl⟩
abbrev main_cst_103 : Ref sig .tc := ⟨.hbm, 607, rfl⟩
abbrev main_v339 : Ref sig .tc := ⟨.hbm, 608, rfl⟩
abbrev main_v340 : Ref sig .tc := ⟨.hbm, 609, rfl⟩
abbrev main_v341 : Ref sig .tc := ⟨.hbm, 610, rfl⟩
abbrev main_v342 : Ref sig .tc := ⟨.hbm, 611, rfl⟩
abbrev main_call19_cst : Ref sig .tc := ⟨.hbm, 612, rfl⟩
abbrev main_call19_v0 : Ref sig .tc := ⟨.hbm, 613, rfl⟩
abbrev main_call19_cst_0 : Ref sig .tc := ⟨.hbm, 614, rfl⟩
abbrev main_call19_v1 : Ref sig .tc := ⟨.hbm, 615, rfl⟩
abbrev main_call19_v2 : Ref sig .tc := ⟨.hbm, 616, rfl⟩
abbrev main_call19_v3 : Ref sig .tc := ⟨.hbm, 617, rfl⟩
abbrev main_call19_v4 : Ref sig .tc := ⟨.hbm, 618, rfl⟩
abbrev main_call19_v5 : Ref sig .tc := ⟨.hbm, 619, rfl⟩
abbrev main_call19_v6 : Ref sig .tc := ⟨.hbm, 620, rfl⟩
abbrev main_call19_cst_1 : Ref sig .tc := ⟨.hbm, 621, rfl⟩
abbrev main_call19_v7 : Ref sig .tc := ⟨.hbm, 622, rfl⟩
abbrev main_call19_v8 : Ref sig .tc := ⟨.hbm, 623, rfl⟩
abbrev main_call19_v9 : Ref sig .tc := ⟨.hbm, 624, rfl⟩
abbrev main_call19_v10 : Ref sig .tc := ⟨.hbm, 625, rfl⟩
abbrev main_v343 : Ref sig .tc := ⟨.hbm, 626, rfl⟩
abbrev main_v344 : Ref sig .tc := ⟨.hbm, 627, rfl⟩
abbrev main_cst_104 : Ref sig .tc := ⟨.hbm, 628, rfl⟩
abbrev main_v345 : Ref sig .tc := ⟨.hbm, 629, rfl⟩
abbrev main_v346 : Ref sig .tc := ⟨.hbm, 630, rfl⟩
abbrev main_cst_105 : Ref sig .tc := ⟨.hbm, 631, rfl⟩
abbrev main_v347 : Ref sig .tc := ⟨.hbm, 632, rfl⟩
abbrev main_cst_106 : Ref sig .tc := ⟨.hbm, 633, rfl⟩
abbrev main_v348 : Ref sig .tc := ⟨.hbm, 634, rfl⟩
abbrev main_call20_cst : Ref sig .tc := ⟨.hbm, 635, rfl⟩
abbrev main_call20_v0 : Ref sig .tc := ⟨.hbm, 636, rfl⟩
abbrev main_call20_cst_0 : Ref sig .tc := ⟨.hbm, 637, rfl⟩
abbrev main_call20_v1 : Ref sig .tc := ⟨.hbm, 638, rfl⟩
abbrev main_call20_v2 : Ref sig .tc := ⟨.hbm, 639, rfl⟩
abbrev main_call20_v3 : Ref sig .tc := ⟨.hbm, 640, rfl⟩
abbrev main_call20_v4 : Ref sig .tc := ⟨.hbm, 641, rfl⟩
abbrev main_call20_v5 : Ref sig .tc := ⟨.hbm, 642, rfl⟩
abbrev main_call20_v6 : Ref sig .tc := ⟨.hbm, 643, rfl⟩
abbrev main_call20_cst_1 : Ref sig .tc := ⟨.hbm, 644, rfl⟩
abbrev main_call20_v7 : Ref sig .tc := ⟨.hbm, 645, rfl⟩
abbrev main_call20_v8 : Ref sig .tc := ⟨.hbm, 646, rfl⟩
abbrev main_call20_v9 : Ref sig .tc := ⟨.hbm, 647, rfl⟩
abbrev main_call20_v10 : Ref sig .tc := ⟨.hbm, 648, rfl⟩
abbrev main_v349 : Ref sig .tc := ⟨.hbm, 649, rfl⟩
abbrev main_v350 : Ref sig .tc := ⟨.hbm, 650, rfl⟩
abbrev main_v351 : Ref sig .tc := ⟨.hbm, 651, rfl⟩
abbrev main_v352 : Ref sig .tc := ⟨.hbm, 652, rfl⟩
abbrev main_cst_107 : Ref sig .tc := ⟨.hbm, 653, rfl⟩
abbrev main_v353 : Ref sig .tc := ⟨.hbm, 654, rfl⟩
abbrev main_cst_108 : Ref sig .tc := ⟨.hbm, 655, rfl⟩
abbrev main_v354 : Ref sig .tc := ⟨.hbm, 656, rfl⟩
abbrev main_v355 : Ref sig .tc := ⟨.hbm, 657, rfl⟩
abbrev main_v356 : Ref sig .tc := ⟨.hbm, 658, rfl⟩
abbrev main_v357 : Ref sig .tc := ⟨.hbm, 659, rfl⟩
abbrev main_v358 : Ref sig .tc := ⟨.hbm, 660, rfl⟩
abbrev main_v359 : Ref sig .tc := ⟨.hbm, 661, rfl⟩
abbrev main_v360 : Ref sig .tc := ⟨.hbm, 662, rfl⟩
abbrev main_v361 : Ref sig .tc := ⟨.hbm, 663, rfl⟩
abbrev main_v362 : Ref sig .tc := ⟨.hbm, 664, rfl⟩
abbrev main_v363 : Ref sig .tc := ⟨.hbm, 665, rfl⟩
abbrev main_v364 : Ref sig .tc := ⟨.hbm, 666, rfl⟩
abbrev main_v365 : Ref sig .tc := ⟨.hbm, 667, rfl⟩
abbrev main_v366 : Ref sig .tc := ⟨.hbm, 668, rfl⟩
abbrev main_v367 : Ref sig .tc := ⟨.hbm, 669, rfl⟩
abbrev main_v368 : Ref sig .tc := ⟨.hbm, 670, rfl⟩
abbrev main_v369 : Ref sig .tc := ⟨.hbm, 671, rfl⟩
abbrev main_v370 : Ref sig .tc := ⟨.hbm, 672, rfl⟩
abbrev main_c_109 : Ref sig .tc := ⟨.hbm, 673, rfl⟩
abbrev main_v371 : Ref sig .tc := ⟨.hbm, 674, rfl⟩
abbrev main_v372 : Ref sig .tc := ⟨.hbm, 675, rfl⟩
abbrev main_v373 : Ref sig .tc := ⟨.hbm, 676, rfl⟩
abbrev main_c_110 : Ref sig .tc := ⟨.hbm, 677, rfl⟩
abbrev main_v374 : Ref sig .tc := ⟨.hbm, 678, rfl⟩
abbrev main_v375 : Ref sig .tc := ⟨.hbm, 679, rfl⟩
abbrev main_v376 : Ref sig .tc := ⟨.hbm, 680, rfl⟩
abbrev main_c_111 : Ref sig .tc := ⟨.hbm, 681, rfl⟩
abbrev main_v377 : Ref sig .tc := ⟨.hbm, 682, rfl⟩
abbrev main_v378 : Ref sig .tc := ⟨.hbm, 683, rfl⟩
abbrev main_v379 : Ref sig .tc := ⟨.hbm, 684, rfl⟩
abbrev main_v380 : Ref sig .tc := ⟨.hbm, 685, rfl⟩
abbrev main_v381 : Ref sig .tc := ⟨.hbm, 686, rfl⟩
abbrev main_v382 : Ref sig .tc := ⟨.hbm, 687, rfl⟩
abbrev main_v383 : Ref sig .tc := ⟨.hbm, 688, rfl⟩
abbrev main_v384 : Ref sig .tc := ⟨.hbm, 689, rfl⟩
abbrev main_v385 : Ref sig .tc := ⟨.hbm, 690, rfl⟩
abbrev main_v386 : Ref sig .tc := ⟨.hbm, 691, rfl⟩
abbrev main_c_112 : Ref sig .tc := ⟨.hbm, 692, rfl⟩
abbrev main_v387 : Ref sig .tc := ⟨.hbm, 693, rfl⟩
abbrev main_v388 : Ref sig .tc := ⟨.hbm, 694, rfl⟩
abbrev main_v389 : Ref sig .tc := ⟨.hbm, 695, rfl⟩
abbrev main_v390 : Ref sig .tc := ⟨.hbm, 696, rfl⟩
abbrev main_v391 : Ref sig .tc := ⟨.hbm, 697, rfl⟩
abbrev main_v392 : Ref sig .tc := ⟨.hbm, 698, rfl⟩
abbrev main_v393 : Ref sig .tc := ⟨.hbm, 699, rfl⟩
abbrev main_c_113 : Ref sig .tc := ⟨.hbm, 700, rfl⟩
abbrev main_v394 : Ref sig .tc := ⟨.hbm, 701, rfl⟩
abbrev main_v395 : Ref sig .tc := ⟨.hbm, 702, rfl⟩
abbrev main_v396 : Ref sig .tc := ⟨.hbm, 703, rfl⟩
abbrev main_cst_114 : Ref sig .tc := ⟨.hbm, 704, rfl⟩
abbrev main_v397 : Ref sig .tc := ⟨.hbm, 705, rfl⟩
abbrev main_v398 : Ref sig .tc := ⟨.hbm, 706, rfl⟩
abbrev main_cst_115 : Ref sig .tc := ⟨.hbm, 707, rfl⟩
abbrev main_v399 : Ref sig .tc := ⟨.hbm, 708, rfl⟩
abbrev main_cst_116 : Ref sig .tc := ⟨.hbm, 709, rfl⟩
abbrev main_v400 : Ref sig .tc := ⟨.hbm, 710, rfl⟩
abbrev main_v401 : Ref sig .tc := ⟨.hbm, 711, rfl⟩
abbrev main_v402 : Ref sig .tc := ⟨.hbm, 712, rfl⟩
abbrev main_v403 : Ref sig .tc := ⟨.hbm, 713, rfl⟩
abbrev main_c_117 : Ref sig .tc := ⟨.hbm, 714, rfl⟩
abbrev main_v404 : Ref sig .tc := ⟨.hbm, 715, rfl⟩
abbrev main_v405 : Ref sig .tc := ⟨.hbm, 716, rfl⟩
abbrev main_v406 : Ref sig .tc := ⟨.hbm, 717, rfl⟩
abbrev main_v407 : Ref sig .tc := ⟨.hbm, 718, rfl⟩
abbrev main_v408 : Ref sig .tc := ⟨.hbm, 719, rfl⟩
abbrev main_v409 : Ref sig .tc := ⟨.hbm, 720, rfl⟩
abbrev main_v410 : Ref sig .tc := ⟨.hbm, 721, rfl⟩
abbrev main_v411 : Ref sig .tc := ⟨.hbm, 722, rfl⟩
abbrev main_v412 : Ref sig .tc := ⟨.hbm, 723, rfl⟩
abbrev main_v413 : Ref sig .tc := ⟨.hbm, 724, rfl⟩
abbrev main_c_118 : Ref sig .tc := ⟨.hbm, 725, rfl⟩
abbrev main_v414 : Ref sig .tc := ⟨.hbm, 726, rfl⟩
abbrev main_v415 : Ref sig .tc := ⟨.hbm, 727, rfl⟩
abbrev main_v416 : Ref sig .tc := ⟨.hbm, 728, rfl⟩
abbrev main_v417 : Ref sig .tc := ⟨.hbm, 729, rfl⟩
abbrev main_v418 : Ref sig .tc := ⟨.hbm, 730, rfl⟩
abbrev main_v419 : Ref sig .tc := ⟨.hbm, 731, rfl⟩
abbrev main_v420 : Ref sig .tc := ⟨.hbm, 732, rfl⟩
abbrev main_c_119 : Ref sig .tc := ⟨.hbm, 733, rfl⟩
abbrev main_v421 : Ref sig .tc := ⟨.hbm, 734, rfl⟩
abbrev main_v422 : Ref sig .tc := ⟨.hbm, 735, rfl⟩
abbrev main_v423 : Ref sig .tc := ⟨.hbm, 736, rfl⟩
abbrev main_cst_120 : Ref sig .tc := ⟨.hbm, 737, rfl⟩
abbrev main_v424 : Ref sig .tc := ⟨.hbm, 738, rfl⟩
abbrev main_v425 : Ref sig .tc := ⟨.hbm, 739, rfl⟩
abbrev main_cst_121 : Ref sig .tc := ⟨.hbm, 740, rfl⟩
abbrev main_v426 : Ref sig .tc := ⟨.hbm, 741, rfl⟩
abbrev main_cst_122 : Ref sig .tc := ⟨.hbm, 742, rfl⟩
abbrev main_v427 : Ref sig .tc := ⟨.hbm, 743, rfl⟩
abbrev main_v428 : Ref sig .tc := ⟨.hbm, 744, rfl⟩
abbrev main_v429 : Ref sig .tc := ⟨.hbm, 745, rfl⟩
abbrev main_v430 : Ref sig .tc := ⟨.hbm, 746, rfl⟩
abbrev main_v431 : Ref sig .tc := ⟨.hbm, 747, rfl⟩
abbrev main_v432 : Ref sig .tc := ⟨.hbm, 748, rfl⟩
abbrev main_v433 : Ref sig .tc := ⟨.hbm, 749, rfl⟩
abbrev main_v434 : Ref sig .tc := ⟨.hbm, 750, rfl⟩
abbrev main_v435 : Ref sig .tc := ⟨.hbm, 751, rfl⟩
abbrev main_v436 : Ref sig .tc := ⟨.hbm, 752, rfl⟩
abbrev main_v437 : Ref sig .tc := ⟨.hbm, 753, rfl⟩
abbrev main_v438 : Ref sig .tc := ⟨.hbm, 754, rfl⟩
abbrev main_c_123 : Ref sig .tc := ⟨.hbm, 755, rfl⟩
abbrev main_v439 : Ref sig .tc := ⟨.hbm, 756, rfl⟩
abbrev main_v440 : Ref sig .tc := ⟨.hbm, 757, rfl⟩
abbrev main_v441 : Ref sig .tc := ⟨.hbm, 758, rfl⟩
abbrev main_v442 : Ref sig .tc := ⟨.hbm, 759, rfl⟩
abbrev main_v443 : Ref sig .tc := ⟨.hbm, 760, rfl⟩
abbrev main_v444 : Ref sig .tc := ⟨.hbm, 761, rfl⟩
abbrev main_v445 : Ref sig .tc := ⟨.hbm, 762, rfl⟩
abbrev main_c_124 : Ref sig .tc := ⟨.hbm, 763, rfl⟩
abbrev main_v446 : Ref sig .tc := ⟨.hbm, 764, rfl⟩
abbrev main_v447 : Ref sig .tc := ⟨.hbm, 765, rfl⟩
abbrev main_v448 : Ref sig .tc := ⟨.hbm, 766, rfl⟩
abbrev main_cst_125 : Ref sig .tc := ⟨.hbm, 767, rfl⟩
abbrev main_v449 : Ref sig .tc := ⟨.hbm, 768, rfl⟩
abbrev main_v450 : Ref sig .tc := ⟨.hbm, 769, rfl⟩
abbrev main_cst_126 : Ref sig .tc := ⟨.hbm, 770, rfl⟩
abbrev main_v451 : Ref sig .tc := ⟨.hbm, 771, rfl⟩
abbrev main_cst_127 : Ref sig .tc := ⟨.hbm, 772, rfl⟩
abbrev main_v452 : Ref sig .tc := ⟨.hbm, 773, rfl⟩
abbrev main_v453 : Ref sig .tc := ⟨.hbm, 774, rfl⟩
abbrev main_v454 : Ref sig .tc := ⟨.hbm, 775, rfl⟩
abbrev main_v455 : Ref sig .tc := ⟨.hbm, 776, rfl⟩
abbrev main_v456 : Ref sig .tc := ⟨.hbm, 777, rfl⟩
abbrev main_v457 : Ref sig .tc := ⟨.hbm, 778, rfl⟩
abbrev main_v458 : Ref sig .tc := ⟨.hbm, 779, rfl⟩
abbrev main_v459 : Ref sig .tc := ⟨.hbm, 780, rfl⟩
abbrev main_v460 : Ref sig .tc := ⟨.hbm, 781, rfl⟩
abbrev main_v461 : Ref sig .tc := ⟨.hbm, 782, rfl⟩
abbrev main_v462 : Ref sig .tc := ⟨.hbm, 783, rfl⟩
abbrev main_v463 : Ref sig .tc := ⟨.hbm, 784, rfl⟩
abbrev main_c_128 : Ref sig .tc := ⟨.hbm, 785, rfl⟩
abbrev main_v464 : Ref sig .tc := ⟨.hbm, 786, rfl⟩
abbrev main_v465 : Ref sig .tc := ⟨.hbm, 787, rfl⟩
abbrev main_v466 : Ref sig .tc := ⟨.hbm, 788, rfl⟩
abbrev main_v467 : Ref sig .tc := ⟨.hbm, 789, rfl⟩
abbrev main_v468 : Ref sig .tc := ⟨.hbm, 790, rfl⟩
abbrev main_v469 : Ref sig .tc := ⟨.hbm, 791, rfl⟩
abbrev main_v470 : Ref sig .tc := ⟨.hbm, 792, rfl⟩
abbrev main_c_129 : Ref sig .tc := ⟨.hbm, 793, rfl⟩
abbrev main_v471 : Ref sig .tc := ⟨.hbm, 794, rfl⟩
abbrev main_v472 : Ref sig .tc := ⟨.hbm, 795, rfl⟩
abbrev main_v473 : Ref sig .tc := ⟨.hbm, 796, rfl⟩
abbrev main_cst_130 : Ref sig .tc := ⟨.hbm, 797, rfl⟩
abbrev main_v474 : Ref sig .tc := ⟨.hbm, 798, rfl⟩
abbrev main_v475 : Ref sig .tc := ⟨.hbm, 799, rfl⟩
abbrev main_cst_131 : Ref sig .tc := ⟨.hbm, 800, rfl⟩
abbrev main_v476 : Ref sig .tc := ⟨.hbm, 801, rfl⟩
abbrev main_cst_132 : Ref sig .tc := ⟨.hbm, 802, rfl⟩
abbrev main_v477 : Ref sig .tc := ⟨.hbm, 803, rfl⟩
abbrev main_v478 : Ref sig .tc := ⟨.hbm, 804, rfl⟩
abbrev main_v479 : Ref sig .tc := ⟨.hbm, 805, rfl⟩
abbrev main_v480 : Ref sig .tc := ⟨.hbm, 806, rfl⟩
abbrev main_v481 : Ref sig .tc := ⟨.hbm, 807, rfl⟩
abbrev main_cst_133 : Ref sig .tc := ⟨.hbm, 808, rfl⟩
abbrev main_v482 : Ref sig .tc := ⟨.hbm, 809, rfl⟩
abbrev main_v483 : Ref sig .tc := ⟨.hbm, 810, rfl⟩
abbrev main_v484 : Ref sig .tc := ⟨.hbm, 811, rfl⟩
abbrev main_cst_134 : Ref sig .tc := ⟨.hbm, 812, rfl⟩
abbrev main_v485 : Ref sig .tc := ⟨.hbm, 813, rfl⟩
abbrev main_cst_135 : Ref sig .tc := ⟨.hbm, 814, rfl⟩
abbrev main_v486 : Ref sig .tc := ⟨.hbm, 815, rfl⟩
abbrev main_v487 : Ref sig .tc := ⟨.hbm, 816, rfl⟩
abbrev main_v488 : Ref sig .tc := ⟨.hbm, 817, rfl⟩
abbrev main_v489 : Ref sig .tc := ⟨.hbm, 818, rfl⟩
abbrev main_v490 : Ref sig .tc := ⟨.hbm, 819, rfl⟩
abbrev main_v491 : Ref sig .tc := ⟨.hbm, 820, rfl⟩
abbrev main_cst_136 : Ref sig .tc := ⟨.hbm, 821, rfl⟩
abbrev main_v492 : Ref sig .tc := ⟨.hbm, 822, rfl⟩
abbrev main_v493 : Ref sig .tc := ⟨.hbm, 823, rfl⟩
abbrev main_v494 : Ref sig .tc := ⟨.hbm, 824, rfl⟩
abbrev main_v495 : Ref sig .tc := ⟨.hbm, 825, rfl⟩
abbrev main_call25_cst : Ref sig .tc := ⟨.hbm, 826, rfl⟩
abbrev main_call25_v0 : Ref sig .tc := ⟨.hbm, 827, rfl⟩
abbrev main_call25_cst_0 : Ref sig .tc := ⟨.hbm, 828, rfl⟩
abbrev main_call25_v1 : Ref sig .tc := ⟨.hbm, 829, rfl⟩
abbrev main_call25_v2 : Ref sig .tc := ⟨.hbm, 830, rfl⟩
abbrev main_call25_v3 : Ref sig .tc := ⟨.hbm, 831, rfl⟩
abbrev main_call25_v4 : Ref sig .tc := ⟨.hbm, 832, rfl⟩
abbrev main_call25_v5 : Ref sig .tc := ⟨.hbm, 833, rfl⟩
abbrev main_call25_v6 : Ref sig .tc := ⟨.hbm, 834, rfl⟩
abbrev main_call25_cst_1 : Ref sig .tc := ⟨.hbm, 835, rfl⟩
abbrev main_call25_v7 : Ref sig .tc := ⟨.hbm, 836, rfl⟩
abbrev main_call25_v8 : Ref sig .tc := ⟨.hbm, 837, rfl⟩
abbrev main_call25_v9 : Ref sig .tc := ⟨.hbm, 838, rfl⟩
abbrev main_call25_v10 : Ref sig .tc := ⟨.hbm, 839, rfl⟩
abbrev main_v496 : Ref sig .tc := ⟨.hbm, 840, rfl⟩
abbrev main_v497 : Ref sig .tc := ⟨.hbm, 841, rfl⟩
abbrev main_cst_137 : Ref sig .tc := ⟨.hbm, 842, rfl⟩
abbrev main_v498 : Ref sig .tc := ⟨.hbm, 843, rfl⟩
abbrev main_v499 : Ref sig .tc := ⟨.hbm, 844, rfl⟩
abbrev main_cst_138 : Ref sig .tc := ⟨.hbm, 845, rfl⟩
abbrev main_v500 : Ref sig .tc := ⟨.hbm, 846, rfl⟩
abbrev main_cst_139 : Ref sig .tc := ⟨.hbm, 847, rfl⟩
abbrev main_v501 : Ref sig .tc := ⟨.hbm, 848, rfl⟩
abbrev main_call26_cst : Ref sig .tc := ⟨.hbm, 849, rfl⟩
abbrev main_call26_v0 : Ref sig .tc := ⟨.hbm, 850, rfl⟩
abbrev main_call26_cst_0 : Ref sig .tc := ⟨.hbm, 851, rfl⟩
abbrev main_call26_v1 : Ref sig .tc := ⟨.hbm, 852, rfl⟩
abbrev main_call26_v2 : Ref sig .tc := ⟨.hbm, 853, rfl⟩
abbrev main_call26_v3 : Ref sig .tc := ⟨.hbm, 854, rfl⟩
abbrev main_call26_v4 : Ref sig .tc := ⟨.hbm, 855, rfl⟩
abbrev main_call26_v5 : Ref sig .tc := ⟨.hbm, 856, rfl⟩
abbrev main_call26_v6 : Ref sig .tc := ⟨.hbm, 857, rfl⟩
abbrev main_call26_cst_1 : Ref sig .tc := ⟨.hbm, 858, rfl⟩
abbrev main_call26_v7 : Ref sig .tc := ⟨.hbm, 859, rfl⟩
abbrev main_call26_v8 : Ref sig .tc := ⟨.hbm, 860, rfl⟩
abbrev main_call26_v9 : Ref sig .tc := ⟨.hbm, 861, rfl⟩
abbrev main_call26_v10 : Ref sig .tc := ⟨.hbm, 862, rfl⟩
abbrev main_v502 : Ref sig .tc := ⟨.hbm, 863, rfl⟩
abbrev main_v503 : Ref sig .tc := ⟨.hbm, 864, rfl⟩
abbrev main_v504 : Ref sig .tc := ⟨.hbm, 865, rfl⟩
abbrev main_v505 : Ref sig .tc := ⟨.hbm, 866, rfl⟩
abbrev main_cst_140 : Ref sig .tc := ⟨.hbm, 867, rfl⟩
abbrev main_v506 : Ref sig .tc := ⟨.hbm, 868, rfl⟩
abbrev main_cst_141 : Ref sig .tc := ⟨.hbm, 869, rfl⟩
abbrev main_v507 : Ref sig .tc := ⟨.hbm, 870, rfl⟩
abbrev main_v508 : Ref sig .tc := ⟨.hbm, 871, rfl⟩
abbrev main_v509 : Ref sig .tc := ⟨.hbm, 872, rfl⟩
abbrev main_v510 : Ref sig .tc := ⟨.hbm, 873, rfl⟩
abbrev main_v511 : Ref sig .tc := ⟨.hbm, 874, rfl⟩
abbrev main_v512 : Ref sig .tc := ⟨.hbm, 875, rfl⟩
abbrev main_cst_142 : Ref sig .tc := ⟨.hbm, 876, rfl⟩
abbrev main_v513 : Ref sig .tc := ⟨.hbm, 877, rfl⟩
abbrev main_v514 : Ref sig .tc := ⟨.hbm, 878, rfl⟩
abbrev main_v515 : Ref sig .tc := ⟨.hbm, 879, rfl⟩
abbrev main_v516 : Ref sig .tc := ⟨.hbm, 880, rfl⟩
abbrev main_v517 : Ref sig .tc := ⟨.hbm, 881, rfl⟩
abbrev main_v518 : Ref sig .tc := ⟨.hbm, 882, rfl⟩
abbrev main_v519 : Ref sig .tc := ⟨.hbm, 883, rfl⟩
abbrev main_v520 : Ref sig .tc := ⟨.hbm, 884, rfl⟩
abbrev main_v521 : Ref sig .tc := ⟨.hbm, 885, rfl⟩
abbrev main_v522 : Ref sig .tc := ⟨.hbm, 886, rfl⟩
abbrev main_v523 : Ref sig .tc := ⟨.hbm, 887, rfl⟩
abbrev main_v524 : Ref sig .tc := ⟨.hbm, 888, rfl⟩
abbrev main_v525 : Ref sig .tc := ⟨.hbm, 889, rfl⟩
abbrev main_v526 : Ref sig .tc := ⟨.hbm, 890, rfl⟩
abbrev main_cst_143 : Ref sig .tc := ⟨.hbm, 891, rfl⟩
abbrev main_v527 : Ref sig .tc := ⟨.hbm, 892, rfl⟩
abbrev main_v528 : Ref sig .tc := ⟨.hbm, 893, rfl⟩

abbrev nD : Nat := 1
abbrev τ : Topo := Topo.v7x

variable {F : FTy → Type} [FloatOps F]
-- ==== Proof.Terms.lean ====
/- The reference's named steps as functions of arrays. -/
module

public import proofs.«01_k».proof.Proof.Gen.ReferenceIdeal.Run

@[expose] public section

set_option maxRecDepth 16384

noncomputable section

namespace Cert.Sae.Ref

open Idealize.ShloMosaic Idealize.ShloMosaic.TcCoe Idealize.ShloMosaic.Tactic Cert.ReferenceIdeal Cert.ReferenceIdeal.Gen
open Idealize.SL Idealize.SL.Sem

variable {F : FTy → Type} [FloatOps F]

/-- The shape of an array of 4096 rows of `w` entries. -/
abbrev Sw (w : ℕ) : Shape := ⟨2, ![4096, w]⟩

/-- An array that holds the number everywhere. -/
abbrev lit (x : BitVec 32) : Vec F S_ .f32 := constant S_ .f32 x

/-- One number per row, repeated along the row. -/
def spread {w : ℕ} (hb : S4096x1.BroadcastsInDim (Sw w) (![0, 1] : Fin 2 → Fin (Sw w).rank)) (v : Vec F S4096x1 .f32) : Vec F (Sw w) .f32 :=
  broadcastInDim (Sw w) ![0, 1] hb v

/-- The entries of each row less the row's largest one. -/
def shift {w : ℕ} (hb : S4096x1.BroadcastsInDim (Sw w) (![0, 1] : Fin 2 → Fin (Sw w).rank)) (hr : (Sw w).ReducesTo [1] S4096) (x : Vec F (Sw w) .f32) : Vec F (Sw w) .f32 :=
  subf x (spread hb (broadcastInDim S4096x1 ![0] bcast_S4096_S4096x1_0 (maximumf (broadcastInDim S4096 ![] bcast_S_S4096 (lit 0xFF800000#32))
    (Host.reduce FloatOps.maximumf x (lit 0xFF800000#32) hr h_S_))))

def softV {w : ℕ} (hb : S4096x1.BroadcastsInDim (Sw w) (![0, 1] : Fin 2 → Fin (Sw w).rank)) (hr : (Sw w).ReducesTo [1] S4096) (x : Vec F (Sw w) .f32) : Vec F (Sw w) .f32 :=
  Host.divf (Host.exp (shift hb hr x)) (spread hb (broadcastInDim S4096x1 ![0] bcast_S4096_S4096x1_0
    (Host.reduceAdd (Host.exp (shift hb hr x)) (lit 0#32) hr h_S_)))

def logSoftV {w : ℕ} (hb : S4096x1.BroadcastsInDim (Sw w) (![0, 1] : Fin 2 → Fin (Sw w).rank)) (hr : (Sw w).ReducesTo [1] S4096) (x : Vec F (Sw w) .f32) : Vec F (Sw w) .f32 :=
  subf (shift hb hr x) (spread hb (Host.log (broadcastInDim S4096x1 ![0] bcast_S4096_S4096x1_0
    (Host.reduceAdd (Host.exp (shift hb hr x)) (lit 0#32) hr h_S_))))

/-- The sum of an array's entries. -/
def totalV {n w : ℕ} (h : (⟨2, ![n, w]⟩ : Shape).ReducesTo [0, 1] S_) (x : Vec F ⟨2, ![n, w]⟩ .f32) : Vec F S_ .f32 :=
  Host.reduceAdd x (lit 0#32) h h_S_

/-- Cross entropy less divergence, of the rows `o` against the softmax of the rows `d`; `n` counts the entries. -/
def hOut {w : ℕ} (hb : S4096x1.BroadcastsInDim (Sw w) (![0, 1] : Fin 2 → Fin (Sw w).rank)) (hr : (Sw w).ReducesTo [1] S4096)
    (ha : (Sw w).ReducesTo [0, 1] S_) (n : BitVec 32) (d o : Vec F (Sw w) .f32) : Vec F S_ .f32 :=
  subf (Host.divf (Host.reduceAdd (Host.negf (Host.reduceAdd (mulf (softV hb hr d) (logSoftV hb hr o)) (lit 0#32) hr h_S_)) (lit 0#32) reducesTo_S4096_S_d0 h_S_) (lit 0x45800000#32))
    (Host.divf (totalV ha (mulf (softV hb hr d) (subf (Host.log (softV hb hr d)) (logSoftV hb hr o)))) (lit n))

def hOut1 (d o : Vec F S4096x1024 .f32) : Vec F S_ .f32 :=
  hOut (w := 1024) bcast_S4096x1_S4096x1024_0_1 reducesTo_S4096x1024_S4096_d1 reducesTo_S4096x1024_S_d0_1 0x4A800000#32 d o

def hOut2 (d o : Vec F S4096x2048 .f32) : Vec F S_ .f32 :=
  hOut (w := 2048) bcast_S4096x1_S4096x2048_0_1 reducesTo_S4096x2048_S4096_d1 reducesTo_S4096x2048_S_d0_1 0x4B000000#32 d o

def hOut3 (d o : Vec F S4096x3072 .f32) : Vec F S_ .f32 :=
  hOut (w := 3072) bcast_S4096x1_S4096x3072_0_1 reducesTo_S4096x3072_S4096_d1 reducesTo_S4096x3072_S_d0_1 0x4B400000#32 d o

def cat2 (a b : Vec F S4096x1024 .f32) : Vec F S4096x2048 .f32 :=
  concatenate S4096x2048 1 [⟨S4096x1024, a⟩, ⟨S4096x1024, b⟩] concatenates_S4096x1024_S4096x1024_S4096x2048_d1

def cat3 (a b c : Vec F S4096x1024 .f32) : Vec F S4096x3072 .f32 :=
  concatenate S4096x3072 1 [⟨S4096x1024, a⟩, ⟨S4096x1024, b⟩, ⟨S4096x1024, c⟩] concatenates_S4096x1024_S4096x1024_S4096x1024_S4096x3072_d1

/-- The least entry of an array. -/
def leastV {n w : ℕ} (h : (⟨2, ![n, w]⟩ : Shape).ReducesTo [0, 1] S_) (x : Vec F ⟨2, ![n, w]⟩ .f32) : Vec F S_ .f32 :=
  Host.reduce FloatOps.minimumf x (lit 0x7F800000#32) h h_S_

/-- The code of every entry, from the least entry. -/
def codesFrom (lo : Vec F S_ .f32) (x : Vec F S4096x1024 .f32) : IVec S4096x1024 32 :=
  fptosi 32 (minimumf (broadcastInDim S4096x1024 ![] bcast_S_S4096x1024 (sitofp .f32 (constantI S_ 32 127#32)))
    (maximumf (broadcastInDim S4096x1024 ![] bcast_S_S4096x1024 (sitofp .f32 (constantI S_ 32 0#32)))
      (subf (Host.ceil (Host.divf (subf x (broadcastInDim S4096x1024 ![] bcast_S_S4096x1024 (Host.floor lo)))
        (broadcastInDim S4096x1024 ![] bcast_S_S4096x1024 (lit 0x3E333333#32))))
        (broadcastInDim S4096x1024 ![] bcast_S_S4096x1024 (lit 0x3F800000#32)))))

/-- The code of every entry. -/
def codesV (x : Vec F S4096x1024 .f32) : IVec S4096x1024 32 :=
  codesFrom (leastV (n := 4096) (w := 1024) reducesTo_S4096x1024_S_d0_1 x) x

def join (a b : IVec S4096x1024 32) : IVec S4096x1024 32 :=
  addi (muli a (broadcastInDim S4096x1024 ![] bcast_S_S4096x1024 (constantI S_ 32 128#32))) b

def sortV (x : IVec S4096x1024 32) : IVec S4096x1024 32 := Host.sort S4096x1024 1 comparator_i32_d1 x

/-- How many entries of the same row are below (or not above) each entry. -/
def below (p : CmpIPredicate) (s : IVec S4096x1024 32) : IVec S4096x1024 32 :=
  Host.reduce IntOp.addi (extui 32 (cmpi p
      (broadcastInDim S4096x1024x1024 ![0, 1, 2] bcast_S4096x1x1024_S4096x1024x1024_0_1_2 (broadcastInDim S4096x1x1024 ![0, 2] bcast_S4096x1024_S4096x1x1024_0_2 s))
      (broadcastInDim S4096x1024x1024 ![0, 1, 2] bcast_S4096x1024x1_S4096x1024x1024_0_1_2 (broadcastInDim S4096x1024x1 ![0, 1] bcast_S4096x1024_S4096x1024x1_0_1 s))) natLt_1_32)
    (constantI S_ 32 0#32) reducesTo_S4096x1024x1024_S4096x1024_d2 h_S_

/-- The entropy of each row. -/
def rowEnt (s : IVec S4096x1024 32) : Vec F S4096 .f32 :=
  subf (broadcastInDim S4096 ![] bcast_S_S4096 (Host.log (lit 0x44800000#32)))
    (Host.divf (Host.reduceAdd (Host.log (sitofp .f32 (subi (below .sle s) (below .slt s)))) (lit 0#32) reducesTo_S4096x1024_S4096_d1 h_S_)
      (broadcastInDim S4096 ![] bcast_S_S4096 (lit 0x44800000#32)))

def sumV (v : Vec F S4096 .f32) : Vec F S_ .f32 := Host.reduceAdd v (lit 0#32) reducesTo_S4096_S_d0 h_S_

/-- The mean of the rows' entropies. -/
def meanEnt (x : IVec S4096x1024 32) : Vec F S_ .f32 := Host.divf (sumV (rowEnt (sortV x))) (lit 0x45800000#32)

section whole
variable (d1 d2 d3 o1 o2 o3 : Vec F S4096x1024 .f32) (da ou : Vec F S4096x3072 .f32)

def dif1 : Vec F S_ .f32 := subf (meanEnt (codesV d1)) (hOut1 d1 o1)

def mi (a b x y : Vec F S4096x1024 .f32) : Vec F S_ .f32 :=
  subf (subf (addf (hOut1 a x) (hOut1 b y)) (hOut2 (cat2 a b) (cat2 x y)))
    (subf (addf (meanEnt (codesV a)) (meanEnt (codesV b))) (meanEnt (join (codesV a) (codesV b))))

def cmiRows : Vec F S4096 .f32 :=
  subf (subf (addf (rowEnt (sortV (join (codesV d1) (codesV d3)))) (rowEnt (sortV (join (codesV d2) (codesV d3)))))
    (rowEnt (sortV (codesV d3)))) (rowEnt (sortV (join (join (codesV d1) (codesV d2)) (codesV d3))))

def cmi : Vec F S_ .f32 :=
  subf (subf (addf (subf (hOut2 (cat2 d2 d3) (cat2 o2 o3)) (hOut1 d3 o3)) (hOut2 (cat2 d1 d3) (cat2 o1 o3)))
    (hOut3 (cat3 d1 d2 d3) (cat3 o1 o2 o3))) (sumV (cmiRows d1 d2 d3))

def sq (x : Vec F S_ .f32) : Vec F S_ .f32 := mulf x x

def result : Vec F S_ .f32 :=
  addf (mulf (lit 0x3F666666#32) (mulf (lit 0x3F000000#32) (Host.divf (totalV (n := 4096) (w := 3072) reducesTo_S4096x3072_S_d0_1 (mulf (subf da ou) (subf da ou))) (lit 0x4B400000#32))))
    (mulf (lit 0x3DCCCCCD#32) (addf (addf (addf (addf (addf (addf (sq (dif1 d1 o1)) (sq (dif1 d2 o2))) (sq (dif1 d3 o3)))
      (sq (mi d1 d3 o1 o3))) (sq (mi d2 d3 o2 o3))) (sq (mi d1 d2 o1 o2))) (sq (cmi d1 d2 d3 o1 o2 o3))))
end whole

section equal
open Cert.ReferenceIdeal.Value

theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v528)
          = result (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg0)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2⟩) (run m ρ)
end equal

end Cert.Sae.Ref
-- ==== Proof.Body.lean ====
/- What one step of the main call computes from its blocks, written as a few repeated pieces: the codes, the one-hot
   histograms, the sort and the run lengths, and the softmax terms. -/
module

public import proofs.«01_k».proof.Proof.Gen.KernelIdeal
public import proofs.«01_k».proof.Proof.Gen.KernelIdeal.Frame

@[expose] public section

noncomputable section

namespace Cert.Sae

open Idealize.ShloMosaic Cert.KernelIdeal Cert.KernelIdeal.Gen

variable {F : FTy → Type} [FloatOps F]

/-! ## Codes -/

/-- The bin code of every entry of a block, the bins starting at `lo`. -/
def codes (x : Vec F S16x1024 .f32) (lo : F .f32) : IVec S16x1024 32 :=
  fptosi 32 (minimumf (broadcast S16x1024 (Scalar.ofBits .f32 0x42FE0000#32)) (maximumf (broadcast S16x1024 (Scalar.ofBits .f32 0x00000000#32))
    (subf (ceil (divf (subf x (broadcast S16x1024 lo)) (broadcast S16x1024 (Scalar.ofBits .f32 0x3E333333#32))))
      (broadcast S16x1024 (Scalar.ofBits .f32 0x3F800000#32)))))

/-- The joint code of three codes. -/
def joint3 (a b c : IVec S16x1024 32) : IVec S16x1024 32 :=
  addi (muli (addi (muli a (broadcast S16x1024 128#32)) b) (broadcast S16x1024 128#32)) c

/-! ## Histograms by one-hot products -/

theorem slices_row (r : Fin 16) : S16x1024.Slices ![r.val, 0] S1x1024 :=
  ⟨rfl, fun a => by
    match a with
    | ⟨0, _⟩ => exact r.isLt
    | ⟨1, _⟩ => exact Nat.le_refl _⟩

/-- The bin numbers down a column, at the 16-bit format. -/
def bins : FVec F S128x1024 .bf16 := sitofp .bf16 (iota .tc S128x1024 32 [0] iota_S128x1024_d0_w32)

/-- Row `r`'s codes, one-hot: entry `(b, j)` is one if entry `j` of the row has code `b`. -/
def oneHot (a : IVec S16x1024 32) (r : Fin 16) : FVec F S128x1024 .bf16 :=
  select (cmpf .oeq (bins (F := F))
      (broadcastTo S128x1024 (extractStridedSlice S1x1024 ![r.val, 0] (sitofp (F := F) .bf16 a) (slices_row r)) broadcasts_S1x1024_S128x1024))
    (broadcast S128x1024 (Scalar.ofBits .bf16 0x3F80#16)) (broadcast S128x1024 (Scalar.ofBits .bf16 0x0000#16))

/-- Row `r`'s joint histogram of two codes. -/
def hist (a b : IVec S16x1024 32) (r : Fin 16) : FVec F S128x128 .f32 :=
  matmul dot_S128x1024_S128x1024_S128x128_1_1_0_0_n_n none (oneHot a r) (oneHot b r) (constant S128x128 .f32 0x00000000#32)

/-- The sum down every column. -/
def colSum (h : FVec F S128x128 .f32) : FVec F S1x128 .f32 :=
  shapeCast S1x128 (multiReduction .add [0] S128 h 0x00000000#32 reduces_S128x128_S128 (.inl rfl) rfl) shapeCasts_S128_S1x128

/-- `h · log (max h 1)`. -/
def xlogx {s : Shape} (h : FVec F s .f32) : FVec F s .f32 :=
  mulf h (log (maximumf h (broadcast s (Scalar.ofBits .f32 0x3F800000#32))))

/-- The joint histograms' sums of `h · log h` by the second code, over the block's rows. -/
def accJoint (a b : IVec S16x1024 32) : FVec F S1x128 .f32 :=
  (List.finRange 16).foldl (fun acc r => addf acc (colSum (xlogx (hist a b r)))) (broadcast S1x128 (Scalar.ofBits .f32 0x00000000#32))

/-- The second code's own histogram (the joint one summed), its `h · log h` over the block's rows. -/
def accOne (a b : IVec S16x1024 32) : FVec F S1x128 .f32 :=
  (List.finRange 16).foldl (fun acc r => addf acc (xlogx (colSum (hist a b r)))) (broadcast S1x128 (Scalar.ofBits .f32 0x00000000#32))

/-- The sum over the lanes. -/
def laneSum (v : FVec F S1x128 .f32) : F .f32 :=
  extractAt ![0, 0, 0] (shapeCast S1x1x1 (multiReduction .add [1, 2] S1 (shapeCast S1x1x128 v shapeCasts_S1x128_S1x1x128) 0x00000000#32
    reduces_S1x1x128_S1 (.inl rfl) rfl) shapeCasts_S1_S1x1x1) inpos_S1x1x1_p0_0_0

/-! ## The sort along the lanes and the run lengths -/

theorem slices_at {k m : ℕ} (h : k + m ≤ 1024) : S16x1024.Slices ![0, k] ⟨2, ![16, m]⟩ :=
  ⟨rfl, fun a => by
    match a with
    | ⟨0, _⟩ => exact Nat.le_refl _
    | ⟨1, _⟩ => exact h⟩

theorem concat_at {k m : ℕ} (h : k + m = 1024) : Shape.Concatenates [⟨2, ![16, k]⟩, ⟨2, ![16, m]⟩] S16x1024 1 := by
  refine ⟨Nat.le_refl _, ?_, ?_⟩
  · intro s hs
    rcases List.mem_cons.mp hs with rfl | hs
    · exact ⟨rfl, fun b hb => by
        match b with
        | ⟨0, _⟩ => rfl
        | ⟨1, _⟩ => exact absurd rfl hb⟩
    · obtain rfl := List.mem_singleton.mp hs
      exact ⟨rfl, fun b hb => by
        match b with
        | ⟨0, _⟩ => rfl
        | ⟨1, _⟩ => exact absurd rfl hb⟩
  · exact h

/-- The lanes turned by `k`: lane `i` takes lane `i + k` around the end. -/
def turn (k m : ℕ) (h : k + m = 1024) (x : IVec S16x1024 32) : IVec S16x1024 32 :=
  concatenate S16x1024 1 [⟨⟨2, ![16, m]⟩, extractStridedSlice ⟨2, ![16, m]⟩ ![0, k] x (slices_at h.le)⟩,
    ⟨⟨2, ![16, k]⟩, extractStridedSlice ⟨2, ![16, k]⟩ ![0, 0] x (slices_at (k := 0) (by omega))⟩] (concat_at (by omega))

/-- Lane `i` takes lane `i - k`, the first `k` lanes the value `z`. -/
def shiftDown (k m : ℕ) (h : k + m = 1024) (z : BitVec 32) (x : IVec S16x1024 32) : IVec S16x1024 32 :=
  concatenate S16x1024 1 [⟨⟨2, ![16, k]⟩, broadcast ⟨2, ![16, k]⟩ z⟩,
    ⟨⟨2, ![16, m]⟩, extractStridedSlice ⟨2, ![16, m]⟩ ![0, 0] x (slices_at (k := 0) (by omega))⟩] (concat_at h)

/-- Lane `i` takes lane `i + k`, the last `k` lanes the value `z`. -/
def shiftUp (k m : ℕ) (h : k + m = 1024) (z : BitVec 32) (x : IVec S16x1024 32) : IVec S16x1024 32 :=
  concatenate S16x1024 1 [⟨⟨2, ![16, m]⟩, extractStridedSlice ⟨2, ![16, m]⟩ ![0, k] x (slices_at h.le)⟩,
    ⟨⟨2, ![16, k]⟩, broadcast ⟨2, ![16, k]⟩ z⟩] (concat_at (by omega))

/-- The lane numbers. -/
def lanes : IVec S16x1024 32 := iota .tc S16x1024 32 [1] iota_S16x1024_d1_w32

/-- Bit `n` of the lane number. -/
def laneBit (n : ℕ) : IVec S16x1024 32 :=
  andi (shrui lanes (broadcast S16x1024 (BitVec.ofNat 32 n))) (broadcast S16x1024 1#32)

theorem pow_split (j : Fin 10) : 2 ^ j.val + (1024 - 2 ^ j.val) = 1024 :=
  Nat.add_sub_cancel' (Nat.pow_le_pow_right (n := 2) (by decide) (Nat.le_of_lt j.isLt))

/-- One exchange of the sort: distance `2 ^ j`, ascending where bit `k` of the lane number is clear. -/
def exchange (k : ℕ) (j : Fin 10) (x : IVec S16x1024 32) : IVec S16x1024 32 :=
  let low := cmpi .eq (laneBit j.val) (broadcast S16x1024 0#32)
  let same := if k = 10 then low else cmpi .eq (laneBit j.val) (laneBit k)
  let partner := select low (turn (2 ^ j.val) (1024 - 2 ^ j.val) (pow_split j) x)
    (turn (1024 - 2 ^ j.val) (2 ^ j.val) ((Nat.add_comm _ _).trans (pow_split j)) x)
  select same (minsi x partner) (maxsi x partner)

/-- The exchanges of level `l`: distances `2 ^ l … 1`. -/
def level (l : ℕ) (hl : l < 10) (x : IVec S16x1024 32) : IVec S16x1024 32 :=
  (List.finRange (l + 1)).reverse.foldl (fun x s => exchange (l + 1) ⟨s.val, by have := s.isLt; omega⟩ x) x

/-- The sort of every row. -/
def sortRows (x : IVec S16x1024 32) : IVec S16x1024 32 :=
  (List.finRange 10).foldl (fun x l => level l.val l.isLt x) x

/-- One doubling step of the runs' starts. -/
def startStep (k : Fin 10) (x : IVec S16x1024 32) : IVec S16x1024 32 :=
  maxsi x (shiftDown (2 ^ k.val) (1024 - 2 ^ k.val) (pow_split k) 0#32 x)

/-- One doubling step of the runs' ends. -/
def endStep (k : Fin 10) (x : IVec S16x1024 32) : IVec S16x1024 32 :=
  minsi x (shiftUp (2 ^ k.val) (1024 - 2 ^ k.val) (pow_split k) 1025#32 x)

/-- Where the run of each lane of a sorted row starts. -/
def runStart (srt : IVec S16x1024 32) : IVec S16x1024 32 :=
  (List.finRange 10).foldl (fun x k => startStep k x)
    (select (cmpi .ne srt (turn 1023 1 rfl srt)) lanes (broadcast S16x1024 0#32))

/-- Where the run of each lane of a sorted row ends. -/
def runEnd (srt : IVec S16x1024 32) : IVec S16x1024 32 :=
  (List.finRange 10).foldl (fun x k => endStep k x)
    (select (cmpi .eq lanes (broadcast S16x1024 1023#32)) (broadcast S16x1024 1023#32)
      (select (cmpi .ne srt (turn 1 1023 rfl srt)) lanes (broadcast S16x1024 1025#32)))

/-- The sum of the logarithms of the run lengths, over a block of sorted rows. -/
def runLogs (srt : IVec S16x1024 32) : F .f32 :=
  extractAt ![0, 0, 0] (shapeCast S1x1x1 (multiReduction .add [1, 2] S1 (shapeCast S1x16x1024
    (log (sitofp .f32 (addi (subi (runEnd srt) (runStart srt)) (broadcast S16x1024 1#32)))) shapeCasts_S16x1024_S1x16x1024) 0x00000000#32
    reduces_S1x16x1024_S1 (.inl rfl) rfl) shapeCasts_S1_S1x1x1) inpos_S1x1x1_p0_0_0

/-! ## The softmax terms -/

/-- A row's greatest entry. -/
def rowMax (x : Vec F S16x1024 .f32) : FVec F S16x1 .f32 :=
  shapeCast S16x1 (multiReduction .maximumf [1] S16 x 0xFF800000#32 reduces_S16x1024_S16 (.inl rfl) rfl) shapeCasts_S16_S16x1

/-- A row's sum. -/
def rowSum (x : FVec F S16x1024 .f32) : FVec F S16x1 .f32 :=
  shapeCast S16x1 (multiReduction .add [1] S16 x 0x00000000#32 reduces_S16x1024_S16 (.inl rfl) rfl) shapeCasts_S16_S16x1

/-- The exponentials of a row's entries less its greatest. -/
def expRow (x : Vec F S16x1024 .f32) : FVec F S16x1024 .f32 :=
  exp (subf x (broadcastTo S16x1024 (rowMax x) broadcasts_S16x1_S16x1024))

/-- What the softmax terms keep of one pair of a data block and an output block, per row: the two maxima, the sum of
    the data's exponentials, the same weighted by the output and by the data, and the sum of the output's exponentials. -/
structure Piece (F : FTy → Type) where
  m : FVec F S16x1 .f32
  s : FVec F S16x1 .f32
  u : FVec F S16x1 .f32
  v : FVec F S16x1 .f32
  mo : FVec F S16x1 .f32
  so : FVec F S16x1 .f32

/-- The piece of a data block and an output block. -/
def piece (d o : Vec F S16x1024 .f32) : Piece F :=
  ⟨rowMax d, rowSum (expRow d), rowSum (mulf (expRow d) o), rowSum (mulf (expRow d) d), rowMax o, rowSum (expRow o)⟩

/-- A sum over pieces of a field scaled by `exp (max - common max)`. -/
def scaled (ps : List (Piece F)) (top : FVec F S16x1 .f32) (mx fld : Piece F → FVec F S16x1 .f32) : FVec F S16x1 .f32 :=
  ps.foldl (fun acc q => addf acc (mulf (exp (subf (mx q) top)) (fld q))) (broadcast S16x1 (Scalar.ofBits .f32 0x00000000#32))

/-- The softmax term of every row over the entries of the pieces `p :: ps` laid side by side, `n` their number. -/
def xcRow (p : Piece F) (ps : List (Piece F)) (n : BitVec 32) : FVec F S16x1 .f32 :=
  let top := ps.foldl (fun a q => maximumf a q.m) p.m
  let topo := ps.foldl (fun a q => maximumf a q.mo) p.mo
  let z := scaled (p :: ps) top Piece.m Piece.s
  let tO := divf (scaled (p :: ps) top Piece.m Piece.u) z
  let td := divf (scaled (p :: ps) top Piece.m Piece.v) z
  let zo := scaled (p :: ps) topo Piece.mo Piece.so
  let bigP := subf tO (addf topo (log zo))
  let bigT := subf td (addf top (log z))
  subf (subf (broadcast S16x1 (Scalar.ofBits .f32 0x00000000#32)) bigP)
    (divf (subf bigT bigP) (broadcast S16x1 (Scalar.ofBits .f32 n)))

/-- The sum of the softmax terms of a block's rows. -/
def xc (p : Piece F) (ps : List (Piece F)) (n : BitVec 32) : F .f32 :=
  extractAt ![0, 0, 0] (shapeCast S1x1x1 (multiReduction .add [1, 2] S1 (shapeCast S1x16x1 (xcRow p ps n) shapeCasts_S16x1_S1x16x1) 0x00000000#32
    reduces_S1x16x1_S1 (.inl rfl) rfl) shapeCasts_S1_S1x1x1) inpos_S1x1x1_p0_0_0

/-! ## The fifteen lanes -/

/-- The block's sum of squared differences. -/
def sqDiff (a b : Vec F S16x3072 .f32) : F .f32 :=
  extractAt ![0, 0, 0] (shapeCast S1x1x1 (multiReduction .add [1, 2] S1 (shapeCast S1x16x3072 (mulf (subf a b) (subf a b))
    shapeCasts_S16x3072_S1x16x3072) 0x00000000#32 reduces_S1x16x3072_S1 (.inl rfl) rfl) shapeCasts_S1_S1x1x1) inpos_S1x1x1_p0_0_0

/-- Values laid in the first lanes, zero in the rest. -/
def inLanes (vs : List (F .f32)) : FVec F S1x1x128 .f32 :=
  shapeCast S1x1x128 (vs.zipIdx.foldl (fun out vk =>
      select (cmpi .eq (iota .tc S1x128 32 [1] iota_S1x128_d1_w32) (broadcast S1x128 (BitVec.ofNat 32 vk.2))) (broadcast S1x128 vk.1) out)
    (broadcast S1x128 (Scalar.ofBits .f32 0x00000000#32))) shapeCasts_S1x128_S1x1x128

/-- The fifteen values of one block. -/
def vals (d1 d2 d3 o1 o2 o3 : Vec F S16x1024 .f32) (da ou : Vec F S16x3072 .f32) (l1 l2 l3 : F .f32) : List (F .f32) :=
  let i1 := codes d1 l1
  let i2 := codes d2 l2
  let i3 := codes d3 l3
  let p1 := piece d1 o1
  let p2 := piece d2 o2
  let p3 := piece d3 o3
  [sqDiff da ou, laneSum (accOne i2 i1), laneSum (accOne i3 i2), laneSum (accOne i1 i3),
    laneSum (accJoint i2 i1), laneSum (accJoint i1 i3), laneSum (accJoint i3 i2), runLogs (sortRows (joint3 i1 i2 i3)),
    xc p1 [] 0x44800000#32, xc p2 [] 0x44800000#32, xc p3 [] 0x44800000#32,
    xc p1 [p3] 0x45000000#32, xc p2 [p3] 0x45000000#32, xc p1 [p2] 0x45000000#32, xc p1 [p2, p3] 0x45400000#32]

end Cert.Sae
-- ==== Proof.Block.lean ====
/- The main call's step leaves the fifteen values of its blocks. -/
module

public import proofs.«01_k».proof.Proof.Body

@[expose] public section

set_option maxRecDepth 65536

noncomputable section

namespace Cert.Sae

open Idealize.ShloMosaic Cert.KernelIdeal Cert.KernelIdeal.Gen

variable {F : FTy → Type} [FloatOps F]

/-- What the step's run writes is the one block of its fifteen values. -/
theorem run_pieces (c : Dev nD) (i : grid1.Coords) (arg1 : Memref sig .tc .vmem S16x1024 .f32) (harg1 : arg1.IsWhole)
    (arg2 : Memref sig .tc .vmem S16x1024 .f32) (harg2 : arg2.IsWhole) (arg3 : Memref sig .tc .vmem S16x1024 .f32) (harg3 : arg3.IsWhole)
    (arg4 : Memref sig .tc .vmem S16x1024 .f32) (harg4 : arg4.IsWhole) (arg5 : Memref sig .tc .vmem S16x1024 .f32) (harg5 : arg5.IsWhole)
    (arg6 : Memref sig .tc .vmem S16x1024 .f32) (harg6 : arg6.IsWhole) (arg7 : Memref sig .tc .vmem S16x3072 .f32) (harg7 : arg7.IsWhole)
    (arg8 : Memref sig .tc .vmem S16x3072 .f32) (harg8 : arg8.IsWhole) (arg9 : Memref sig .tc .smem S3 .f32) (harg9 : arg9.IsWhole)
    (arg10 : Memref sig .tc .vmem S1x1x128 .f32) (harg10 : arg10.IsWhole)
    (x0 x1 x2 x3 x4 x5 : Vec F S16x1024 .f32) (x6 x7 : Vec F S16x3072 .f32) (x8 : Vec F S3 .f32) :
    (kernelRun1_A c i arg1 harg1 arg2 harg2 arg3 harg3 arg4 harg4 arg5 harg5 arg6 harg6 arg7 harg7 arg8 harg8 arg9 harg9 arg10 harg10
        x0 x1 x2 x3 x4 x5 x6 x7 x8).1
      = [⟨Rect.unit ![0, 0, 0] ![1, 1, 128] inb_S1x1x128_S1x1x128_0_0_0,
          inLanes (vals
            (View.readAt (Elt F) arg1.view (Rect.unit ![0, 0] S16x1024.size inb_S16x1024_S16x1024_0_0).toLoadRect (harg1.unread x0))
            (View.readAt (Elt F) arg2.view (Rect.unit ![0, 0] S16x1024.size inb_S16x1024_S16x1024_0_0).toLoadRect (harg2.unread x1))
            (View.readAt (Elt F) arg3.view (Rect.unit ![0, 0] S16x1024.size inb_S16x1024_S16x1024_0_0).toLoadRect (harg3.unread x2))
            (View.readAt (Elt F) arg4.view (Rect.unit ![0, 0] S16x1024.size inb_S16x1024_S16x1024_0_0).toLoadRect (harg4.unread x3))
            (View.readAt (Elt F) arg5.view (Rect.unit ![0, 0] S16x1024.size inb_S16x1024_S16x1024_0_0).toLoadRect (harg5.unread x4))
            (View.readAt (Elt F) arg6.view (Rect.unit ![0, 0] S16x1024.size inb_S16x1024_S16x1024_0_0).toLoadRect (harg6.unread x5))
            (View.readAt (Elt F) arg7.view (Rect.unit ![0, 0] S16x3072.size inb_S16x3072_S16x3072_0_0).toLoadRect (harg7.unread x6))
            (View.readAt (Elt F) arg8.view (Rect.unit ![0, 0] S16x3072.size inb_S16x3072_S16x3072_0_0).toLoadRect (harg8.unread x7))
            (View.readAt (Elt F) arg9.view (Rect.unit (s := S3) ![0] S1.size inb_S3_S1_0).toLoadRect (harg9.unread x8) (Shape.Idx.first (by decide)))
            (View.readAt (Elt F) arg9.view (Rect.unit (s := S3) ![1] S1.size inb_S3_S1_1).toLoadRect (harg9.unread x8) (Shape.Idx.first (by decide)))
            (View.readAt (Elt F) arg9.view (Rect.unit (s := S3) ![2] S1.size inb_S3_S1_2).toLoadRect (harg9.unread x8) (Shape.Idx.first (by decide))))⟩] := by
  sl_kernel_rfl

end Cert.Sae
-- ==== Proof.Main.lean ====
/- What the two calls leave in their arrays, and what the run leaves in the result. -/
module

public import proofs.«01_k».proof.Proof.Block
public import Idealize.ShloMosaic.Lib.Pipeline.ValueKit

@[expose] public section

set_option maxRecDepth 16384

noncomputable section

namespace Cert.Sae

open Idealize.ShloMosaic Idealize.ShloMosaic.TcCoe Idealize.ShloMosaic.Tactic Cert.KernelIdeal Cert.KernelIdeal.Gen
open Idealize.SL Idealize.SL.Sem
open Idealize.ShloMosaic.Pipeline (Dat)

variable {F : FTy → Type} [FloatOps F]

theorem blk_lt {K n N : ℕ} (hK : K * n ≤ N) (t : Fin K) (a : Fin n) : t.val * n + a.val < N :=
  calc t.val * n + a.val < t.val * n + n := Nat.add_lt_add_left a.isLt _
    _ = (t.val + 1) * n := (Nat.succ_mul _ _).symm
    _ ≤ K * n := Nat.mul_le_mul_right n t.isLt
    _ ≤ N := hK

/-- Block `t` of an array of rows, the blocks of `n` rows. -/
def blk {α : Type} {N M : ℕ} (n : ℕ) (X : (⟨2, ![N, M]⟩ : Shape).Idx → α) (K : ℕ) (hK : K * n ≤ N) (t : Fin K) : (⟨2, ![n, M]⟩ : Shape).Idx → α :=
  fun y => X (ix2 ⟨t.val * n + (y 0).val, blk_lt hK t (y 0)⟩ (y 1))

variable (m : (ℓ : Loc nD τ sig) → Buf (Elt F) ℓ) (ρ : Dev nD → PrngReg)

theorem index0 : ∀ t : Fin cfg0.N, win0_0.index t = ![t.val, 0] ∧ win0_1.index t = ![t.val, 0] ∧ win0_2.index t = ![t.val, 0]
    ∧ win0_3.index t = ![t.val, 0, 0] := by decide +kernel

theorem index1 : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] ∧ win1_6.index t = ![t.val, 0]
    ∧ win1_7.index t = ![t.val, 0] ∧ win1_8.index t = ![0] ∧ win1_9.index t = ![t.val, 0, 0] := by decide +kernel

theorem place {K : ℕ} {α : Type} (P : Fin K → S1x1x128.Idx → α) (t : Fin K) (y : S1x1x128.Idx) (i : (⟨3, ![K, 1, 128]⟩ : Shape).Idx)
    (h0 : (i 0).val = t.val) (h2 : (i 2).val = (y 2).val) : P t y = P (i 0) (ix3 0 0 (i 2)) := by
  have e0 : i 0 = t := Fin.ext h0
  have e2 : y = ix3 0 0 (i 2) := funext fun a => by
    match a with
    | ⟨0, _⟩ => exact Fin.ext (by have := (y 0).isLt; show (y 0).val = 0; change (y 0).val < 1 at this; omega)
    | ⟨1, _⟩ => exact Fin.ext (by have := (y 1).isLt; show (y 1).val = 0; change (y 1).val < 1 at this; omega)
    | ⟨2, _⟩ => exact Fin.ext h2.symm
  rw [e0]
  exact congrArg (P t) e2

section First
variable (V : (c : Dev nD) → (b : Ref sig .tc) → Buf (Elt F) ((c : Thread nD τ).loc b))

/-- The first call's array: lane by lane the minima of each block. -/
def minsArr (x y z : Vec F S4096x1024 .f32) : Vec F S8x1x128 .f32 := fun i =>
  k0_pay1 (blk 512 x 8 (by norm_num) (i 0)) (blk 512 y 8 (by norm_num) (i 0)) (blk 512 z 8 (by norm_num) (i 0)) (ix3 0 0 (i 2))

theorem iblk0_eq (c : Dev nD) (t : Fin cfg0.N) :
    (iblk0 V c 0 t : Vec F S512x1024 .f32) = blk 512 (V c main_arg1) 8 (by norm_num) t
    ∧ (iblk0 V c 1 t : Vec F S512x1024 .f32) = blk 512 (V c main_arg2) 8 (by norm_num) t
    ∧ (iblk0 V c 2 t : Vec F S512x1024 .f32) = blk 512 (V c main_arg3) 8 (by norm_num) t := by
  obtain ⟨e0, e1, e2, -⟩ := index0 t
  refine ⟨?_, ?_, ?_⟩ <;> funext y <;> unfold blk
  · blk_ext [iblk0, e0]
  · blk_ext [iblk0, e1]
  · blk_ext [iblk0, e2]

theorem arr0 (c : Dev nD) : (dat0 V c).arrAt 3 cfg0.N = minsArr (V c main_arg1) (V c main_arg2) (V c main_arg3) := by
  refine (dat0 V c).arrAt_eq_of_covers 3 _ (by decide +kernel) fun t hf y => ?_
  obtain ⟨h0, h1, h2⟩ := iblk0_eq V c t
  obtain ⟨-, -, -, e3⟩ := index0 t
  rw [after0_3]
  frame_out
  rw [h0, h1, h2]
  unfold minsArr
  blk_simp
  refine place (K := 8) (fun t => k0_pay1 (blk 512 (V c main_arg1) 8 (by norm_num) t) (blk 512 (V c main_arg2) 8 (by norm_num) t)
    (blk 512 (V c main_arg3) 8 (by norm_num) t)) t y _ ?_ ?_
  · have : (y 0).val < 1 := (y 0).isLt
    blk_simp [e3]
  · blk_simp [e3]

/-- The second call's array: lane by lane the values of each block. -/
def lanesArr (d1 d2 d3 o1 o2 o3 : Vec F S4096x1024 .f32) (da ou : Vec F S4096x3072 .f32) (lo : Vec F S3 .f32) : Vec F S256x1x128 .f32 := fun i =>
  inLanes (vals (blk 16 d1 256 (by norm_num) (i 0)) (blk 16 d2 256 (by norm_num) (i 0)) (blk 16 d3 256 (by norm_num) (i 0))
    (blk 16 o1 256 (by norm_num) (i 0)) (blk 16 o2 256 (by norm_num) (i 0)) (blk 16 o3 256 (by norm_num) (i 0))
    (blk 16 da 256 (by norm_num) (i 0)) (blk 16 ou 256 (by norm_num) (i 0)) (lo (ix1 0)) (lo (ix1 1)) (lo (ix1 2))) (ix3 0 0 (i 2))

theorem iblk1_eq (c : Dev nD) (t : Fin cfg1.N) :
    (iblk1 V c 0 t : Vec F S16x1024 .f32) = blk 16 (V c main_arg1) 256 (by norm_num) t
    ∧ (iblk1 V c 1 t : Vec F S16x1024 .f32) = blk 16 (V c main_arg2) 256 (by norm_num) t
    ∧ (iblk1 V c 2 t : Vec F S16x1024 .f32) = blk 16 (V c main_arg3) 256 (by norm_num) t
    ∧ (iblk1 V c 3 t : Vec F S16x1024 .f32) = blk 16 (V c main_arg4) 256 (by norm_num) t
    ∧ (iblk1 V c 4 t : Vec F S16x1024 .f32) = blk 16 (V c main_arg5) 256 (by norm_num) t
    ∧ (iblk1 V c 5 t : Vec F S16x1024 .f32) = blk 16 (V c main_arg6) 256 (by norm_num) t
    ∧ (iblk1 V c 6 t : Vec F S16x3072 .f32) = blk 16 (V c main_arg0) 256 (by norm_num) t
    ∧ (iblk1 V c 7 t : Vec F S16x3072 .f32) = blk 16 (V c main_arg7) 256 (by norm_num) t
    ∧ (iblk1 V c 8 t : Vec F S3 .f32) = V c main_v4 := by
  obtain ⟨e0, e1, e2, e3, e4, e5, e6, e7, e8, -⟩ := index1 t
  refine ⟨?_, ?_, ?_, ?_, ?_, ?_, ?_, ?_, ?_⟩ <;> funext y <;> (try unfold blk)
  · blk_ext [iblk1, e0]
  · blk_ext [iblk1, e1]
  · blk_ext [iblk1, e2]
  · blk_ext [iblk1, e3]
  · blk_ext [iblk1, e4]
  · blk_ext [iblk1, e5]
  · blk_ext [iblk1, e6]
  · blk_ext [iblk1, e7]
  · blk_ext [iblk1, e8]

theorem load_whole {S : Shape} {sp : Space} {e : EltTy} {a : Memref sig .tc sp S e} (h : a.IsWhole) (X : S.Idx → Elt F e) {off : Fin S.rank → Nat} (hz : off = fun _ => 0)
    (inb) : View.readAt (Elt F) a.view (Rect.unit off S.size inb).toLoadRect (h.unread X) = X :=
  (congrArg (fun g => View.ld g (Rect.unit off S.size inb)) (h.read_unread X)).trans (View.ld_unit_zero hz inb X)

theorem load_word {sp : Space} {a : Memref sig .tc sp S3 .f32} (h : a.IsWhole) (X : Vec F S3 .f32) (k : Fin 3) (inb) (hp) :
    View.readAt (Elt F) a.view (Rect.unit (s := S3) ![k.val] S1.size inb).toLoadRect (h.unread X) (Shape.Idx.first hp) = X (ix1 k) := by
  refine (congrFun (h.read_unread X) _).trans (congrArg X (funext fun b => Fin.ext ?_))
  fin_cases b
  rfl

/-- What the step leaves in its output block. -/
theorem out_eq (c : Dev nD) (i : grid1.Coords) (arg1 : Memref sig .tc .vmem S16x1024 .f32) (harg1 : arg1.IsWhole)
    (arg2 : Memref sig .tc .vmem S16x1024 .f32) (harg2 : arg2.IsWhole) (arg3 : Memref sig .tc .vmem S16x1024 .f32) (harg3 : arg3.IsWhole)
    (arg4 : Memref sig .tc .vmem S16x1024 .f32) (harg4 : arg4.IsWhole) (arg5 : Memref sig .tc .vmem S16x1024 .f32) (harg5 : arg5.IsWhole)
    (arg6 : Memref sig .tc .vmem S16x1024 .f32) (harg6 : arg6.IsWhole) (arg7 : Memref sig .tc .vmem S16x3072 .f32) (harg7 : arg7.IsWhole)
    (arg8 : Memref sig .tc .vmem S16x3072 .f32) (harg8 : arg8.IsWhole) (arg9 : Memref sig .tc .smem S3 .f32) (harg9 : arg9.IsWhole)
    (arg10 : Memref sig .tc .vmem S1x1x128 .f32) (harg10 : arg10.IsWhole)
    (x0 x1 x2 x3 x4 x5 : Vec F S16x1024 .f32) (x6 x7 : Vec F S16x3072 .f32) (x8 : Vec F S3 .f32) :
    out1_A_9 c i arg1 harg1 arg2 harg2 arg3 harg3 arg4 harg4 arg5 harg5 arg6 harg6 arg7 harg7 arg8 harg8 arg9 harg9 arg10 harg10
        x0 x1 x2 x3 x4 x5 x6 x7 x8
      = inLanes (vals x0 x1 x2 x3 x4 x5 x6 x7 (x8 (ix1 0)) (x8 (ix1 1)) (x8 (ix1 2))) := by
  have hz2 : (![0, 0] : Fin 2 → Nat) = fun _ => 0 := funext fun a => by fin_cases a <;> rfl
  have hz3 : (![0, 0, 0] : Fin 3 → Nat) = fun _ => 0 := funext fun a => by fin_cases a <;> rfl
  unfold out1_A_9
  rw [View.read_writes_eq_canon _ _ _ (cover1_A_9 c _ _ _ _ _ _ _ _ _ _ _ _ _ _ _ _ _ _ _ _ _ _ _ _ _ _ _ _ _ _), run_pieces]
  rw [load_whole harg1 x0 hz2, load_whole harg2 x1 hz2, load_whole harg3 x2 hz2, load_whole harg4 x3 hz2, load_whole harg5 x4 hz2,
    load_whole harg6 x5 hz2, load_whole harg7 x6 hz2, load_whole harg8 x7 hz2]
  rw [show ∀ hp, View.readAt (Elt F) arg9.view (Rect.unit (s := S3) ![0] S1.size inb_S3_S1_0).toLoadRect (harg9.unread x8) (Shape.Idx.first hp)
      = x8 (ix1 0) from load_word harg9 x8 0 _,
    show ∀ hp, View.readAt (Elt F) arg9.view (Rect.unit (s := S3) ![1] S1.size inb_S3_S1_1).toLoadRect (harg9.unread x8) (Shape.Idx.first hp)
      = x8 (ix1 1) from load_word harg9 x8 1 _,
    show ∀ hp, View.readAt (Elt F) arg9.view (Rect.unit (s := S3) ![2] S1.size inb_S3_S1_2).toLoadRect (harg9.unread x8) (Shape.Idx.first hp)
      = x8 (ix1 2) from load_word harg9 x8 2 _]
  exact View.canon_unit_zero (S := S1x1x128) hz3 _ _

theorem arr1 (c : Dev nD) : (dat1 V c).arrAt 9 cfg1.N
    = lanesArr (V c main_arg1) (V c main_arg2) (V c main_arg3) (V c main_arg4) (V c main_arg5) (V c main_arg6) (V c main_arg0) (V c main_arg7)
        (V c main_v4) := by
  refine (dat1 V c).arrAt_eq_of_covers 9 _ (by decide +kernel) fun t hf y => ?_
  obtain ⟨h0, h1, h2, h3, h4, h5, h6, h7, h8⟩ := iblk1_eq V c t
  obtain ⟨-, -, -, -, -, -, -, -, -, e9⟩ := index1 t
  rw [after1_9]
  unfold outsAt1
  rw [out_eq, h0, h1, h2, h3, h4, h5, h6, h7, h8]
  unfold lanesArr
  blk_simp
  refine place (K := 256) (fun t => inLanes (vals (blk 16 (V c main_arg1) 256 (by norm_num) t) (blk 16 (V c main_arg2) 256 (by norm_num) t)
    (blk 16 (V c main_arg3) 256 (by norm_num) t) (blk 16 (V c main_arg4) 256 (by norm_num) t) (blk 16 (V c main_arg5) 256 (by norm_num) t)
    (blk 16 (V c main_arg6) 256 (by norm_num) t) (blk 16 (V c main_arg0) 256 (by norm_num) t) (blk 16 (V c main_arg7) 256 (by norm_num) t)
    (V c main_v4 (ix1 0)) (V c main_v4 (ix1 1)) (V c main_v4 (ix1 2)))) t y _ ?_ ?_
  · have : (y 0).val < 1 := (y 0).isLt
    blk_simp [e9]
  · blk_simp [e9]

end First

end Cert.Sae
-- ==== Proof.Counts.lean ====
/- Sums of logarithms of counts: by a histogram, after a permutation, under a renaming of the values, and by the runs of a sorted row. -/
module

public import Idealize.ShloMosaic.PureOps.Ideal.Laws

@[expose] public section

noncomputable section

namespace Cert.Sae

open Finset

/-! ## Counts -/

section counts

variable {ι α β : Type} [Fintype ι] [DecidableEq α] [DecidableEq β]

/-- How many entries equal entry `j`. -/
def count (f : ι → α) (j : ι) : ℕ := (univ.filter fun i => f i = f j).card

/-- The sum over the entries of the logarithm of how many entries equal each. -/
def logs (f : ι → α) : ℝ := ∑ j, Real.log (count f j)

theorem count_pos (f : ι → α) (j : ι) : 0 < count f j := card_pos.mpr ⟨j, by simp⟩

theorem logs_congr {f : ι → α} {g : ι → β} (h : ∀ i j, f i = f j ↔ g i = g j) : logs f = logs g := by
  refine sum_congr rfl fun j _ => ?_
  rw [count, count]
  congr 2
  congr 1
  ext i
  simp [h i j]

theorem count_perm (f : ι → α) (σ : Equiv.Perm ι) (j : ι) : count (fun i => f (σ i)) j = count f (σ j) :=
  card_bij (fun i _ => σ i) (fun i hi => by simpa using hi) (fun i _ k _ h => σ.injective h)
    (fun i hi => ⟨σ.symm i, by simpa using hi, by simp⟩)

theorem logs_perm (f : ι → α) (σ : Equiv.Perm ι) : logs (fun i => f (σ i)) = logs f := by
  simp only [logs, count_perm]
  exact Equiv.sum_comp σ fun i => Real.log (count f i)

/-- The sum over the bins of `h · log (max h 1)`, `h` the bin's count. -/
theorem logs_hist [Fintype α] (f : ι → α) :
    (∑ b, ((univ.filter fun i => f i = b).card : ℝ) * Real.log (max ((univ.filter fun i => f i = b).card : ℝ) 1)) = logs f := by
  rw [logs, ← sum_fiberwise univ f]
  refine sum_congr rfl fun b _ => ?_
  rw [sum_congr rfl fun i hi => show Real.log (count f i) = Real.log (max ((univ.filter fun i => f i = b).card : ℝ) 1) from ?_,
    sum_const, nsmul_eq_mul]
  have hb : f i = b := (mem_filter.mp hi).2
  have hc : count f i = (univ.filter fun i => f i = b).card := by rw [count, hb]
  rw [← hc, max_eq_left]
  exact_mod_cast count_pos f i

end counts

/-! ## Sorted rows -/

section sorted

variable {n : ℕ} {v : Fin n → ℤ}

/-- In a sorted row the entries below a value are the first ones. -/
theorem lt_iff_lt_card (hv : Monotone v) (c : ℤ) (i : Fin n) : v i < c ↔ i.val < (univ.filter fun i => v i < c).card := by
  have key : ∀ i : Fin n, v i < c → i.val < (univ.filter fun i => v i < c).card := fun i hi => by
    have : (Finset.Iic i) ⊆ univ.filter fun i => v i < c := fun k hk => by
      simp only [mem_filter, mem_univ, true_and]
      exact lt_of_le_of_lt (hv (mem_Iic.mp hk)) hi
    have := card_le_card this
    rw [Fin.card_Iic] at this
    omega
  refine ⟨key i, fun hi => ?_⟩
  by_contra hc
  have : (univ.filter fun i => v i < c) ⊆ Finset.Iio i := fun k hk => by
    simp only [mem_filter, mem_univ, true_and] at hk
    rw [mem_Iio]
    by_contra hik
    exact hc (lt_of_le_of_lt (hv (not_lt.mp hik)) hk)
  have := card_le_card this
  rw [Fin.card_Iio] at this
  omega

theorem le_iff_lt_card (hv : Monotone v) (c : ℤ) (i : Fin n) : v i ≤ c ↔ i.val < (univ.filter fun i => v i ≤ c).card := by
  have := lt_iff_lt_card hv (c + 1) i
  simpa only [Int.lt_add_one_iff] using this

theorem card_sub (v : Fin n → ℤ) (i : Fin n) :
    (univ.filter fun k => v k < v i).card + count v i = (univ.filter fun k => v k ≤ v i).card := by
  rw [count, ← card_union_of_disjoint]
  · congr 1
    ext k
    simp only [mem_union, mem_filter, mem_univ, true_and]
    exact le_iff_lt_or_eq.symm
  · rw [disjoint_left]
    intro k hk hk'
    simp only [mem_filter, mem_univ, true_and] at hk hk'
    omega

end sorted

/-! ## Runs by doubling -/

section runs

variable {N : ℕ} (x : ℕ → ℕ → ℤ)

/-- Doubling a maximum over the preceding entries. -/
theorem start_iff (h0 : ∀ i < N, 0 ≤ x 0 i)
    (hs : ∀ k, ∀ i < N, x (k + 1) i = max (x k i) (if i < 2 ^ k then 0 else x k (i - 2 ^ k))) (k : ℕ) :
    ∀ i < N, ∀ c : ℤ, x k i ≤ c ↔ ∀ i' ≤ i, i < i' + 2 ^ k → x 0 i' ≤ c := by
  induction k with
  | zero =>
    intro i _ c
    constructor
    · intro h i' h1 h2
      obtain rfl : i' = i := by omega
      exact h
    · intro h
      exact h i le_rfl (by omega)
  | succ k ih =>
    intro i hi c
    rw [hs k i hi, max_le_iff, ih i hi c]
    have hp : 2 ^ (k + 1) = 2 ^ k + 2 ^ k := by ring
    have hp0 : 0 < 2 ^ k := by positivity
    split
    · rename_i hlt
      constructor
      · rintro ⟨h1, _⟩ i' h2 _
        exact h1 i' h2 (by omega)
      · intro h
        refine ⟨fun i' h1 h2 => h i' h1 (by omega), ?_⟩
        exact (h0 i hi).trans (h i le_rfl (by omega))
    · rename_i hlt
      rw [ih (i - 2 ^ k) (by omega) c]
      constructor
      · rintro ⟨h1, h2⟩ i' h3 h4
        by_cases hc : i < i' + 2 ^ k
        · exact h1 i' h3 hc
        · exact h2 i' (by omega) (by omega)
      · intro h
        exact ⟨fun i' h1 h2 => h i' h1 (by omega), fun i' h1 h2 => h i' (by omega) (by omega)⟩

/-- Doubling a minimum over the following entries. -/
theorem end_iff {z : ℤ} (h0 : ∀ i < N, x 0 i ≤ z)
    (hs : ∀ k, ∀ i < N, x (k + 1) i = min (x k i) (if i + 2 ^ k < N then x k (i + 2 ^ k) else z)) (k : ℕ) :
    ∀ i < N, ∀ c : ℤ, c ≤ x k i ↔ ∀ i' < N, i ≤ i' → i' < i + 2 ^ k → c ≤ x 0 i' := by
  induction k with
  | zero =>
    intro i hi c
    constructor
    · intro h i' _ h1 h2
      obtain rfl : i' = i := by omega
      exact h
    · intro h
      exact h i hi le_rfl (by omega)
  | succ k ih =>
    intro i hi c
    rw [hs k i hi, le_min_iff, ih i hi c]
    have hp : 2 ^ (k + 1) = 2 ^ k + 2 ^ k := by ring
    have hp0 : 0 < 2 ^ k := by positivity
    split
    · rename_i hlt
      rw [ih (i + 2 ^ k) hlt c]
      constructor
      · rintro ⟨h1, h2⟩ i' h5 h3 h4
        by_cases hc : i' < i + 2 ^ k
        · exact h1 i' h5 h3 hc
        · exact h2 i' h5 (by omega) (by omega)
      · intro h
        exact ⟨fun i' h5 h1 h2 => h i' h5 h1 (by omega), fun i' h5 h1 h2 => h i' h5 (by omega) (by omega)⟩
    · rename_i hlt
      constructor
      · rintro ⟨h1, _⟩ i' h5 h2 _
        exact h1 i' h5 h2 (by omega)
      · intro h
        refine ⟨fun i' h5 h1 h2 => h i' h5 h1 (by omega), ?_⟩
        exact (h i hi le_rfl (by omega)).trans (h0 i hi)

variable {v : Fin N → ℤ}

/-- The doubled starts of a sorted row: how many entries are below. -/
theorem start_eq (hv : Monotone v) {k : ℕ} (hk : N ≤ 2 ^ k)
    (h0 : ∀ i : Fin N, x 0 i = if ∃ j : Fin N, (j.val + 1) % N = i ∧ v i ≠ v j then (i.val : ℤ) else 0)
    (hs : ∀ k, ∀ i < N, x (k + 1) i = max (x k i) (if i < 2 ^ k then 0 else x k (i - 2 ^ k))) (i : Fin N) :
    x k i = ((univ.filter fun j => v j < v i).card : ℤ) := by
  have hn : ∀ i < N, 0 ≤ x 0 i := fun i hi => by
    rw [h0 ⟨i, hi⟩]; split <;> simp
  have key := start_iff x hn hs k i i.isLt
  set a := (univ.filter fun j => v j < v i).card with ha
  have hlt := lt_iff_lt_card hv (v i)
  have hai : a ≤ i.val := by
    have := (not_congr (hlt i)).mp (lt_irrefl _)
    omega
  apply le_antisymm
  · refine (key a).mpr fun i' h1 _ => ?_
    have hi' : i' < N := lt_of_le_of_lt h1 i.isLt
    rw [h0 ⟨i', hi'⟩]
    split
    · rename_i h
      obtain ⟨j, hj, hne⟩ := h
      simp only at hj
      by_cases hz : i' = 0
      · simp [hz]
      · have hji : j.val + 1 = i' := by
          by_cases hjN : j.val + 1 = N
          · rw [hjN, Nat.mod_self] at hj; omega
          · rw [Nat.mod_eq_of_lt (by have := j.isLt; omega)] at hj; exact hj
        have h2 : v j ≤ v ⟨i', hi'⟩ := hv (Fin.le_def.mpr (by simp only; omega))
        have h3 : v ⟨i', hi'⟩ ≤ v i := hv (Fin.le_def.mpr h1)
        have h4 : v j < v i := lt_of_lt_of_le (lt_of_le_of_ne h2 (Ne.symm hne)) h3
        have := (hlt j).mp h4
        simp only
        omega
    · simp
  · by_cases hz : a = 0
    · rw [hz]
      have := (start_iff x hn hs k i i.isLt (x k i)).mp le_rfl i le_rfl (by have : 0 < 2 ^ k := by positivity
                                                                            omega)
      exact le_trans (by simpa using hn i i.isLt) this
    · by_contra hc
      have hc' : x k i ≤ (a : ℤ) - 1 := by omega
      have := (key _).mp hc' a hai (by have := i.isLt; omega)
      rw [h0 ⟨a, lt_of_le_of_lt hai i.isLt⟩, if_pos] at this
      · simp only at this; omega
      · refine ⟨⟨a - 1, by have := i.isLt; omega⟩, ?_, ?_⟩
        · simp only
          rw [Nat.sub_add_cancel (by omega), Nat.mod_eq_of_lt (lt_of_le_of_lt hai i.isLt)]
        · have h1 := (hlt ⟨a - 1, by have := i.isLt; omega⟩).mpr (by simp only; omega)
          have h2 := (not_congr (hlt ⟨a, lt_of_le_of_lt hai i.isLt⟩)).mpr (by simp only; omega)
          omega

/-- The doubled ends of a sorted row: one less than how many entries are not above. -/
theorem end_eq (hv : Monotone v) {k : ℕ} (hk : N ≤ 2 ^ k) {z : ℤ} (hz : (N : ℤ) ≤ z)
    (h0 : ∀ i : Fin N, x 0 i = if i.val = N - 1 then (i.val : ℤ) else
      if ∃ j : Fin N, (i.val + 1) % N = j ∧ v i ≠ v j then (i.val : ℤ) else z)
    (hs : ∀ k, ∀ i < N, x (k + 1) i = min (x k i) (if i + 2 ^ k < N then x k (i + 2 ^ k) else z)) (i : Fin N) :
    x k i = ((univ.filter fun j => v j ≤ v i).card : ℤ) - 1 := by
  have hn : ∀ i < N, x 0 i ≤ z := fun i hi => by
    rw [h0 ⟨i, hi⟩]; split_ifs <;> (try simp only) <;> omega
  have key := end_iff x hn hs k i i.isLt
  set b := (univ.filter fun j => v j ≤ v i).card with hb
  have hle := le_iff_lt_card hv (v i)
  have hib : i.val < b := (hle i).mp le_rfl
  have hbN : b ≤ N := by
    have := card_filter_le (univ : Finset (Fin N)) fun j => v j ≤ v i
    rwa [card_univ, Fintype.card_fin] at this
  apply le_antisymm
  · have hb1 : b - 1 < N := by omega
    have := (key (x k i)).mp le_rfl (b - 1) hb1 (by omega) (by omega)
    refine this.trans ?_
    rw [h0 ⟨b - 1, hb1⟩]
    split
    · simp only; omega
    · rename_i hne
      simp only at hne
      rw [if_pos]
      · simp only; omega
      · refine ⟨⟨b, by omega⟩, ?_, ?_⟩
        · simp only
          rw [Nat.sub_add_cancel (by omega), Nat.mod_eq_of_lt (by omega)]
        · have h1 := (hle ⟨b - 1, hb1⟩).mpr (by simp only; omega)
          have h2 := (not_congr (hle ⟨b, by omega⟩)).mpr (by simp only; omega)
          omega
  · refine (key _).mpr fun i' hi' h1 _ => ?_
    rw [h0 ⟨i', hi'⟩]
    split
    · rename_i he
      simp only at he ⊢; omega
    · rename_i hne
      simp only at hne
      split
      · rename_i h
        obtain ⟨j, hj, hne'⟩ := h
        simp only at hj ⊢
        rw [Nat.mod_eq_of_lt (by omega)] at hj
        have h2 : v ⟨i', hi'⟩ ≤ v j := hv (Fin.le_def.mpr (by simp only; omega))
        have h3 : v i ≤ v ⟨i', hi'⟩ := hv (Fin.le_def.mpr h1)
        have h4 : ¬ v j ≤ v i := not_le.mpr (lt_of_le_of_lt h3 (lt_of_le_of_ne h2 hne'))
        have := (not_congr (hle j)).mp h4
        omega
      · omega

end runs

end Cert.Sae
-- ==== Proof.Sort.lean ====
/- The sort along the lanes of every row, and the run lengths of the sorted rows. -/
module

public import proofs.«01_k».proof.Proof.Body
public import proofs.«01_k».proof.Proof.Counts
public import Idealize.ShloMosaic.Lib.SortNet.Sorts
public import Idealize.ShloMosaic.Lib.SortNet.Extract
public import Idealize.ShloMosaic.Lib.Pointwise
public import Idealize.ShloMosaic.Lib.ValueIdx
public import Idealize.ShloMosaic.Lib.WordArith

@[expose] public section

noncomputable section

namespace Cert.Sae

open Idealize.ShloMosaic Cert.KernelIdeal Cert.KernelIdeal.Gen

/-! ## Lanes moved along a row -/

theorem turn_apply {k m : ℕ} (h : k + m = 1024) (x : IVec S16x1024 32) (r : Fin 16) (i : Fin 1024) :
    turn k m h x (ix2 r i) = x (ix2 r ⟨(i.val + k) % 1024, Nat.mod_lt _ (by decide)⟩) := by
  have hi := i.isLt
  unfold turn
  by_cases hc : i.val < m
  · rw [concatenate_pair_apply_left (t := S16x1024) (s₁ := ⟨2, ![16, m]⟩) (s₂ := ⟨2, ![16, k]⟩) 1 _ _ _ (ix2 r i) rfl
      (ix2 (n1 := m) r ⟨i.val, hc⟩) (fun b => by match b with | ⟨0, _⟩ => rfl | ⟨1, _⟩ => rfl)]
    refine extractStridedSlice_apply (s := S16x1024) (t := ⟨2, ![16, m]⟩) _ x _ _ _ fun a => ?_
    match a with
    | ⟨0, _⟩ => exact (Nat.zero_add _).symm
    | ⟨1, _⟩ => change (i.val + k) % 1024 = k + i.val; rw [Nat.mod_eq_of_lt (by omega), Nat.add_comm]
  · rw [concatenate_pair_apply_right (t := S16x1024) (s₁ := ⟨2, ![16, m]⟩) (s₂ := ⟨2, ![16, k]⟩) 1 _ _ _ (ix2 r i) rfl rfl
      (ix2 (n1 := k) r ⟨i.val - m, by omega⟩)
      (fun b hb => by match b with | ⟨0, _⟩ => rfl | ⟨1, _⟩ => exact absurd rfl hb)
      (by change i.val - m + m = i.val; omega)]
    refine extractStridedSlice_apply (s := S16x1024) (t := ⟨2, ![16, k]⟩) _ x _ _ _ fun a => ?_
    match a with
    | ⟨0, _⟩ => exact (Nat.zero_add _).symm
    | ⟨1, _⟩ =>
      change (i.val + k) % 1024 = 0 + (i.val - m)
      have : i.val + k = (i.val - m) + 1024 := by omega
      rw [this, Nat.add_mod_right, Nat.mod_eq_of_lt (by omega), Nat.zero_add]

theorem shiftDown_apply {k m : ℕ} (h : k + m = 1024) (z : BitVec 32) (x : IVec S16x1024 32) (r : Fin 16) (i : Fin 1024) :
    shiftDown k m h z x (ix2 r i) = if i.val < k then z else x (ix2 r ⟨i.val - k, by omega⟩) := by
  have hi := i.isLt
  unfold shiftDown
  by_cases hc : i.val < k
  · rw [if_pos hc, concatenate_pair_apply_left (t := S16x1024) (s₁ := ⟨2, ![16, k]⟩) (s₂ := ⟨2, ![16, m]⟩) 1 _ _ _ (ix2 r i) rfl
      (ix2 (n1 := k) r ⟨i.val, hc⟩) (fun b => by match b with | ⟨0, _⟩ => rfl | ⟨1, _⟩ => rfl)]
    rfl
  · rw [if_neg hc, concatenate_pair_apply_right (t := S16x1024) (s₁ := ⟨2, ![16, k]⟩) (s₂ := ⟨2, ![16, m]⟩) 1 _ _ _ (ix2 r i) rfl rfl
      (ix2 (n1 := m) r ⟨i.val - k, by omega⟩)
      (fun b hb => by match b with | ⟨0, _⟩ => rfl | ⟨1, _⟩ => exact absurd rfl hb)
      (by change i.val - k + k = i.val; omega)]
    refine extractStridedSlice_apply (s := S16x1024) (t := ⟨2, ![16, m]⟩) _ x _ _ _ fun a => ?_
    match a with
    | ⟨0, _⟩ => exact (Nat.zero_add _).symm
    | ⟨1, _⟩ => exact (Nat.zero_add _).symm

theorem shiftUp_apply {k m : ℕ} (h : k + m = 1024) (z : BitVec 32) (x : IVec S16x1024 32) (r : Fin 16) (i : Fin 1024) :
    shiftUp k m h z x (ix2 r i) = if hc : i.val + k < 1024 then x (ix2 r ⟨i.val + k, hc⟩) else z := by
  have hi := i.isLt
  unfold shiftUp
  by_cases hc : i.val < m
  · rw [dif_pos (by omega), concatenate_pair_apply_left (t := S16x1024) (s₁ := ⟨2, ![16, m]⟩) (s₂ := ⟨2, ![16, k]⟩) 1 _ _ _ (ix2 r i) rfl
      (ix2 (n1 := m) r ⟨i.val, hc⟩) (fun b => by match b with | ⟨0, _⟩ => rfl | ⟨1, _⟩ => rfl)]
    refine extractStridedSlice_apply (s := S16x1024) (t := ⟨2, ![16, m]⟩) _ x _ _ _ fun a => ?_
    match a with
    | ⟨0, _⟩ => exact (Nat.zero_add _).symm
    | ⟨1, _⟩ => exact Nat.add_comm _ _
  · rw [dif_neg (by omega), concatenate_pair_apply_right (t := S16x1024) (s₁ := ⟨2, ![16, m]⟩) (s₂ := ⟨2, ![16, k]⟩) 1 _ _ _ (ix2 r i) rfl rfl
      (ix2 (n1 := k) r ⟨i.val - m, by omega⟩)
      (fun b hb => by match b with | ⟨0, _⟩ => rfl | ⟨1, _⟩ => exact absurd rfl hb)
      (by change i.val - m + m = i.val; omega)]
    rfl

/-! ## The sort -/

/-- Row `r`'s entries as integers. -/
def rowZ (x : IVec S16x1024 32) (r : Fin 16) : Fin 1024 → ℤ := fun i => (x (ix2 r i)).toInt

theorem lanes_apply (r : Fin 16) (i : Fin 1024) : lanes (ix2 r i) = BitVec.ofNat 32 i.val := iota_single_apply _ _ _ _ _ _

theorem bit_words : ∀ n : Fin 10, ∀ i : Fin 1024, IntOp.andi (IntOp.shrui .vector (BitVec.ofNat 32 i.val) (BitVec.ofNat 32 n.val)) 1#32
    = if i.val &&& 2 ^ n.val = 0 then 0#32 else 1#32 := by decide +kernel

theorem laneBit_apply (n : Fin 10) (r : Fin 16) (i : Fin 1024) :
    laneBit n.val (ix2 r i) = if i.val &&& 2 ^ n.val = 0 then 0#32 else 1#32 := by
  rw [← bit_words n i]
  unfold laneBit
  change IntOp.andi (IntOp.shrui .vector (lanes (ix2 r i)) (BitVec.ofNat 32 n.val)) 1#32 = _
  rw [lanes_apply]

/-- The direction of a stage: the greater entry first where bit `k` of the position is set. -/
def down (k : ℕ) (i : Fin (2 ^ 10)) : Bool := (decide (i.val &&& 2 ^ k = 0)) == false

theorem high_bit (i : Fin 1024) : i.val &&& 2 ^ 10 = 0 := by
  rw [SortNet.and_two_pow_eq_zero_iff_testBit]
  exact Nat.testBit_lt_two_pow i.isLt

theorem partner_high {s k : ℕ} (hs : s < 10) (hk : s ≠ k) (i : Fin (2 ^ 10)) :
    (SortNet.partner 10 s i).val &&& 2 ^ k = 0 ↔ i.val &&& 2 ^ k = 0 := by
  rw [SortNet.and_two_pow_eq_zero_iff_testBit, SortNet.and_two_pow_eq_zero_iff_testBit, SortNet.partner_val hs, Nat.testBit_xor,
    Nat.testBit_two_pow, decide_eq_false hk, Bool.xor_false]

theorem stage_at {s k : ℕ} (hs : s < 10) (hk : s < k) (v : Fin (2 ^ 10) → ℤ) (i : Fin (2 ^ 10)) :
    SortNet.Network.apply (SortNet.stage 10 s (down k)) v i =
      if (i.val &&& 2 ^ s = 0) = (i.val &&& 2 ^ k = 0) then min (v i) (v (SortNet.partner 10 s i)) else max (v i) (v (SortNet.partner 10 s i)) := by
  by_cases hi : i.val &&& 2 ^ s = 0
  · rw [(SortNet.apply_stage hs (down k) v i hi).1]
    by_cases hb : i.val &&& 2 ^ k = 0 <;> simp [down, hi, hb]
  · have h := (SortNet.apply_stage hs (down k) v _ (SortNet.partner_and_of_set hs i hi)).2
    rw [SortNet.partner_partner hs] at h
    rw [h]
    have hp := partner_high hs hk.ne i
    by_cases hb : i.val &&& 2 ^ k = 0
    · simp [down, hi, hb, hp, max_comm]
    · simp [down, hi, hb, hp, min_comm]

theorem partner_apply (s : Fin 10) (x : IVec S16x1024 32) (r : Fin 16) (i : Fin 1024) :
    select (cmpi .eq (laneBit s.val) (broadcast S16x1024 0#32)) (turn (2 ^ s.val) (1024 - 2 ^ s.val) (pow_split s) x)
      (turn (1024 - 2 ^ s.val) (2 ^ s.val) ((Nat.add_comm _ _).trans (pow_split s)) x) (ix2 r i)
      = x (ix2 r (SortNet.partner 10 s.val i)) := by
  change Scalar.select (IntOp.cmpi .eq (laneBit s.val (ix2 r i)) 0#32) (turn _ _ _ x (ix2 r i)) (turn _ _ _ x (ix2 r i)) = _
  rw [turn_apply, turn_apply, laneBit_apply]
  have hp := pow_split s
  have hi := i.isLt
  by_cases hb : i.val &&& 2 ^ s.val = 0
  · rw [if_pos hb]
    refine congrArg (fun k => x (ix2 r k)) (Fin.ext ?_)
    change (i.val + 2 ^ s.val) % 1024 = _
    have h := SortNet.partner_val_of_clear s.isLt i hb
    have hl := (SortNet.partner 10 s.val i).isLt
    rw [h, Nat.mod_eq_of_lt (by rw [h] at hl; exact hl)]
  · rw [if_neg hb]
    refine congrArg (fun k => x (ix2 r k)) (Fin.ext ?_)
    change (i.val + (1024 - 2 ^ s.val)) % 1024 = _
    obtain ⟨hle, h⟩ := SortNet.partner_val_of_set s.isLt i hb
    rw [h]
    have e : i.val + (1024 - 2 ^ s.val) = (i.val - 2 ^ s.val) + 1024 := by omega
    rw [e, Nat.add_mod_right, Nat.mod_eq_of_lt (by omega)]

theorem rowZ_exchange {k : ℕ} (hk : k ≤ 10) (s : Fin 10) (hs : s.val < k) (x : IVec S16x1024 32) (r : Fin 16) :
    rowZ (exchange k s x) r = SortNet.Network.apply (SortNet.stage 10 s.val (down k)) (rowZ x r) := by
  funext i
  rw [stage_at s.isLt hs]
  have hsame : (if k = 10 then cmpi .eq (laneBit s.val) (broadcast S16x1024 0#32) else cmpi .eq (laneBit s.val) (laneBit k)) (ix2 r i)
      = if (i.val &&& 2 ^ s.val = 0) = (i.val &&& 2 ^ k = 0) then 1#1 else 0#1 := by
    by_cases h10 : k = 10
    · subst h10
      rw [if_pos rfl]
      change IntOp.cmpi .eq (laneBit s.val (ix2 r i)) 0#32 = _
      rw [laneBit_apply]
      have := eq_true (high_bit i)
      by_cases hb : i.val &&& 2 ^ s.val = 0
      · rw [if_pos hb, if_pos ((eq_true hb).trans this.symm)]; rfl
      · rw [if_neg hb, if_neg (fun h => hb (h.mpr (high_bit i)))]; rfl
    · rw [if_neg h10]
      change IntOp.cmpi .eq (laneBit s.val (ix2 r i)) (laneBit (⟨k, by omega⟩ : Fin 10).val (ix2 r i)) = _
      rw [laneBit_apply, laneBit_apply]
      by_cases hb : i.val &&& 2 ^ s.val = 0 <;> by_cases hc : i.val &&& 2 ^ k = 0 <;> simp [hb, hc] <;> rfl
  have hpart := partner_apply s x r i
  unfold rowZ exchange
  rw [show ∀ (c : IVec S16x1024 1) (a b : IVec S16x1024 32), select c a b (ix2 r i) = Scalar.select (c (ix2 r i)) (a (ix2 r i)) (b (ix2 r i))
    from fun _ _ _ => rfl, hsame]
  rw [show ∀ (a b : IVec S16x1024 32), minsi a b (ix2 r i) = IntOp.minsi (a (ix2 r i)) (b (ix2 r i)) from fun _ _ => rfl,
    show ∀ (a b : IVec S16x1024 32), maxsi a b (ix2 r i) = IntOp.maxsi (a (ix2 r i)) (b (ix2 r i)) from fun _ _ => rfl, hpart]
  split
  · exact SortNet.toInt_minsi _ _
  · exact SortNet.toInt_maxsi _ _

theorem apply_flatMap {α : Type} {n : ℕ} (L : List α) (f : α → SortNet.Network n) (v : Fin n → ℤ) :
    SortNet.Network.apply (L.flatMap f) v = L.foldl (fun v a => SortNet.Network.apply (f a) v) v := by
  induction L generalizing v with
  | nil => rfl
  | cons a L ih => rw [List.flatMap_cons, SortNet.Network.apply_append, ih, List.foldl_cons]

theorem rowZ_foldl {α : Type} (r : Fin 16) (L : List α) (g : IVec S16x1024 32 → α → IVec S16x1024 32) (g' : (Fin 1024 → ℤ) → α → Fin 1024 → ℤ)
    (h : ∀ x, ∀ a ∈ L, rowZ (g x a) r = g' (rowZ x r) a) (x : IVec S16x1024 32) : rowZ (L.foldl g x) r = L.foldl g' (rowZ x r) := by
  induction L generalizing x with
  | nil => rfl
  | cons a L ih =>
    rw [List.foldl_cons, List.foldl_cons, ih (fun x b hb => h x b (List.mem_cons_of_mem _ hb)), h x a List.mem_cons_self]

theorem rowZ_level (l : ℕ) (hl : l < 10) (x : IVec S16x1024 32) (r : Fin 16) :
    rowZ (level l hl x) r = SortNet.Network.apply ((List.range (l + 1)).reverse.flatMap fun s => SortNet.stage 10 s (down (l + 1))) (rowZ x r) := by
  unfold level
  rw [rowZ_foldl r _ _ (fun v s => SortNet.Network.apply (SortNet.stage 10 s.val (down (l + 1))) v)
    (fun x s _ => rowZ_exchange (by omega) ⟨s.val, by have := s.isLt; omega⟩ (by have := s.isLt; simp only; omega) x r),
    apply_flatMap, ← List.map_coe_finRange_eq_range, ← List.map_reverse, List.foldl_map]
  rfl

/-- The rows sorted by the exchanges. -/
theorem rowZ_sortRows (x : IVec S16x1024 32) (r : Fin 16) :
    rowZ (sortRows x) r = SortNet.Network.apply (SortNet.sortNet 10 false) (rowZ x r) := by
  unfold sortRows
  rw [rowZ_foldl r _ _ (fun v l => SortNet.Network.apply ((List.range (l.val + 1)).reverse.flatMap fun s =>
      SortNet.stage 10 s (down (l.val + 1))) v) (fun x l _ => rowZ_level l.val l.isLt x r),
    SortNet.sortNet, apply_flatMap, ← List.map_coe_finRange_eq_range, List.foldl_map]
  rfl

theorem rowZ_sorted (x : IVec S16x1024 32) (r : Fin 16) : Monotone (rowZ (sortRows x) r) := by
  rw [rowZ_sortRows]
  exact SortNet.sortNet_apply_monotone 10 _

theorem rowZ_perm (x : IVec S16x1024 32) (r : Fin 16) : ∃ σ : Equiv.Perm (Fin 1024), rowZ (sortRows x) r = fun i => rowZ x r (σ i) := by
  rw [rowZ_sortRows]
  exact SortNet.Network.exists_perm _ _

/-! ## The runs -/

/-- Row `r`'s entries as integers, by natural positions. -/
def rowN (x : IVec S16x1024 32) (r : Fin 16) : ℕ → ℤ := fun i => if h : i < 1024 then rowZ x r ⟨i, h⟩ else 0

/-- One doubling step of a row's starts. -/
def stepS (k : ℕ) (v : ℕ → ℤ) : ℕ → ℤ := fun i => if i < 1024 then max (v i) (if i < 2 ^ k then 0 else v (i - 2 ^ k)) else 0

/-- One doubling step of a row's ends. -/
def stepE (k : ℕ) (v : ℕ → ℤ) : ℕ → ℤ := fun i => if i < 1024 then min (v i) (if i + 2 ^ k < 1024 then v (i + 2 ^ k) else 1025) else 0

theorem rowN_start (k : Fin 10) (x : IVec S16x1024 32) (r : Fin 16) : rowN (startStep k x) r = stepS k.val (rowN x r) := by
  funext i
  unfold rowN stepS
  by_cases h : i < 1024
  · rw [dif_pos h, if_pos h]
    simp only
    rw [dif_pos h]
    change (IntOp.maxsi (x (ix2 r ⟨i, h⟩)) (shiftDown _ _ _ _ x (ix2 r ⟨i, h⟩))).toInt = _
    rw [SortNet.toInt_maxsi, shiftDown_apply]
    simp only
    split
    · rfl
    · rw [dif_pos (Nat.lt_of_le_of_lt (Nat.sub_le _ _) h)]; rfl
  · rw [dif_neg h, if_neg h]

theorem rowN_end (k : Fin 10) (x : IVec S16x1024 32) (r : Fin 16) : rowN (endStep k x) r = stepE k.val (rowN x r) := by
  funext i
  unfold rowN stepE
  by_cases h : i < 1024
  · rw [dif_pos h, if_pos h]
    simp only
    rw [dif_pos h]
    change (IntOp.minsi (x (ix2 r ⟨i, h⟩)) (shiftUp _ _ _ _ x (ix2 r ⟨i, h⟩))).toInt = _
    rw [SortNet.toInt_minsi, shiftUp_apply]
    by_cases hc : i + 2 ^ k.val < 1024
    · rw [dif_pos hc, if_pos hc, dif_pos hc]; rfl
    · rw [dif_neg hc, if_neg hc]; rfl
  · rw [dif_neg h, if_neg h]

/-- A fold over the first `n` numbers as a recursion. -/
def iter {β : Type} (f : ℕ → β → β) (b : β) : ℕ → β
  | 0 => b
  | n + 1 => f n (iter f b n)

theorem foldl_iter {β : Type} (f : ℕ → β → β) (b : β) (n : ℕ) : (List.range n).foldl (fun b k => f k b) b = iter f b n := by
  induction n with
  | zero => rfl
  | succ n ih => rw [List.range_succ, List.foldl_append, ih]; rfl

theorem rowN_fold (r : Fin 16) (g : Fin 10 → IVec S16x1024 32 → IVec S16x1024 32) (f : ℕ → (ℕ → ℤ) → ℕ → ℤ)
    (h : ∀ k x, rowN (g k x) r = f k.val (rowN x r)) (x : IVec S16x1024 32) :
    rowN ((List.finRange 10).foldl (fun x k => g k x) x) r = iter f (rowN x r) 10 := by
  rw [← foldl_iter, ← List.map_coe_finRange_eq_range, List.foldl_map]
  generalize List.finRange 10 = L
  induction L generalizing x with
  | nil => rfl
  | cons a L ih => rw [List.foldl_cons, List.foldl_cons, ih, h]

theorem runStart_eq (x : IVec S16x1024 32) (r : Fin 16) (hx : Monotone (rowZ x r)) (i : Fin 1024) :
    rowZ (runStart x) r i = ((Finset.univ.filter fun j => rowZ x r j < rowZ x r i).card : ℤ) := by
  have h := rowN_fold r startStep stepS (fun k x => rowN_start k x r)
    (select (cmpi .ne x (turn 1023 1 rfl x)) lanes (broadcast S16x1024 0#32))
  have e : rowZ (runStart x) r i = rowN (runStart x) r i.val := by unfold rowN; rw [dif_pos i.isLt]
  rw [e]
  unfold runStart
  rw [h]
  refine start_eq (fun k => iter stepS _ k) hx (k := 10) (by decide) ?_ ?_ i
  · intro i
    change rowN _ r i.val = _
    unfold rowN
    rw [dif_pos i.isLt]
    change (Scalar.select (IntOp.cmpi .ne (x (ix2 r i)) (turn 1023 1 rfl x (ix2 r i))) (lanes (ix2 r i)) 0#32).toInt = _
    rw [turn_apply, lanes_apply]
    have hj : ∀ j : Fin 1024, (j.val + 1) % 1024 = i.val ↔ j = ⟨(i.val + 1023) % 1024, Nat.mod_lt _ (by decide)⟩ := fun j => by
      have := j.isLt; have := i.isLt
      rw [Fin.ext_iff]; simp only; omega
    simp only [hj, exists_eq_left]
    by_cases hc : rowZ x r i = rowZ x r ⟨(i.val + 1023) % 1024, Nat.mod_lt _ (by decide)⟩
    · rw [if_neg (not_not.mpr hc), ← BitVec.eq_of_toInt_eq hc]
      simp [IntOp.cmpi, Scalar.select]
    · rw [if_pos hc]
      have : IntOp.cmpi .ne (x (ix2 r i)) (x (ix2 r ⟨(i.val + 1023) % 1024, Nat.mod_lt _ (by decide)⟩)) = 1#1 := by
        rw [IntOp.cmpi, bne_iff_ne.mpr fun h => hc (congrArg BitVec.toInt h)]; rfl
      rw [this]
      change (BitVec.ofNat 32 i.val).toInt = _
      have := i.isLt
      rw [BitVec.toInt_ofNat', Int.bmod_eq_of_le] <;> simp <;> omega
  · intro k i hi
    change stepS k _ i = _
    unfold stepS
    rw [if_pos hi]

theorem runEnd_eq (x : IVec S16x1024 32) (r : Fin 16) (hx : Monotone (rowZ x r)) (i : Fin 1024) :
    rowZ (runEnd x) r i = ((Finset.univ.filter fun j => rowZ x r j ≤ rowZ x r i).card : ℤ) - 1 := by
  have h := rowN_fold r endStep stepE (fun k x => rowN_end k x r)
    (select (cmpi .eq lanes (broadcast S16x1024 1023#32)) (broadcast S16x1024 1023#32)
      (select (cmpi .ne x (turn 1 1023 rfl x)) lanes (broadcast S16x1024 1025#32)))
  have e : rowZ (runEnd x) r i = rowN (runEnd x) r i.val := by unfold rowN; rw [dif_pos i.isLt]
  rw [e]
  unfold runEnd
  rw [h]
  refine end_eq (z := 1025) (fun k => iter stepE _ k) hx (k := 10) (by decide) (by decide) ?_ ?_ i
  · intro i
    change rowN _ r i.val = _
    unfold rowN
    rw [dif_pos i.isLt]
    change (Scalar.select (IntOp.cmpi .eq (lanes (ix2 r i)) 1023#32) 1023#32
      (Scalar.select (IntOp.cmpi .ne (x (ix2 r i)) (turn 1 1023 rfl x (ix2 r i))) (lanes (ix2 r i)) 1025#32)).toInt = _
    rw [turn_apply, lanes_apply]
    have hlane : (BitVec.ofNat 32 i.val).toInt = i.val := by
      have := i.isLt
      rw [BitVec.toInt_ofNat', Int.bmod_eq_of_le] <;> simp <;> omega
    by_cases hl : i.val = 1024 - 1
    · rw [if_pos hl, hl]; rfl
    · have : IntOp.cmpi .eq (BitVec.ofNat 32 i.val) 1023#32 = 0#1 := by
        have hne : BitVec.ofNat 32 i.val ≠ 1023#32 := fun h => hl (by
          have h' := congrArg BitVec.toInt h
          rw [hlane] at h'
          have : (1023#32 : BitVec 32).toInt = 1023 := by decide
          omega)
        rw [IntOp.cmpi, beq_eq_false_iff_ne.mpr hne]; rfl
      rw [if_neg hl, this]
      rw [show ∀ a b : BitVec 32, Scalar.select 0#1 a b = b from fun _ _ => rfl]
      have hj : ∀ j : Fin 1024, (i.val + 1) % 1024 = j.val ↔ j = ⟨(i.val + 1) % 1024, Nat.mod_lt _ (by decide)⟩ := fun j => by
        rw [Fin.ext_iff]; exact eq_comm
      simp only [hj, exists_eq_left]
      by_cases hc : rowZ x r i = rowZ x r ⟨(i.val + 1) % 1024, Nat.mod_lt _ (by decide)⟩
      · rw [if_neg (not_not.mpr hc), ← BitVec.eq_of_toInt_eq hc]
        simp [IntOp.cmpi, Scalar.select]
      · rw [if_pos hc]
        have : IntOp.cmpi .ne (x (ix2 r i)) (x (ix2 r ⟨(i.val + 1) % 1024, Nat.mod_lt _ (by decide)⟩)) = 1#1 := by
          rw [IntOp.cmpi, bne_iff_ne.mpr fun h => hc (congrArg BitVec.toInt h)]; rfl
        rw [this]
        exact hlane
  · intro k i hi
    change stepE k _ i = _
    unfold stepE
    rw [if_pos hi]

/-- The run length of a lane of a sorted row. -/
theorem run_length (x : IVec S16x1024 32) (r : Fin 16) (hx : Monotone (rowZ x r)) (i : Fin 1024) :
    (addi (subi (runEnd x) (runStart x)) (broadcast S16x1024 1#32) (ix2 r i)).toInt = count (rowZ x r) i := by
  have hs := runStart_eq x r hx i
  have he := runEnd_eq x r hx i
  have hc := card_sub (rowZ x r) i
  have hle : (Finset.univ.filter fun j => rowZ x r j ≤ rowZ x r i).card ≤ 1024 := by
    have := Finset.card_filter_le (Finset.univ : Finset (Fin 1024)) fun j => rowZ x r j ≤ rowZ x r i
    rwa [Finset.card_univ, Fintype.card_fin] at this
  have hp := count_pos (rowZ x r) i
  unfold rowZ at hs he
  change (runEnd x (ix2 r i) - runStart x (ix2 r i) + 1#32).toInt = _
  have h1 : (1#32 : BitVec 32).toInt = 1 := by decide
  have hd : (runEnd x (ix2 r i) - runStart x (ix2 r i)).toInt = (count (rowZ x r) i : ℤ) - 1 := by
    rw [WordArith.toInt_sub_of_bounds, hs, he]
    · change ((Finset.univ.filter fun j => rowZ x r j ≤ rowZ x r i).card : ℤ) - 1
        - (Finset.univ.filter fun j => rowZ x r j < rowZ x r i).card = _
      omega
    · rw [hs, he]
      change _ ≤ ((Finset.univ.filter fun j => rowZ x r j ≤ rowZ x r i).card : ℤ) - 1
        - (Finset.univ.filter fun j => rowZ x r j < rowZ x r i).card
      omega
    · rw [hs, he]
      change ((Finset.univ.filter fun j => rowZ x r j ≤ rowZ x r i).card : ℤ) - 1
        - (Finset.univ.filter fun j => rowZ x r j < rowZ x r i).card < _
      omega
  rw [WordArith.toInt_add_of_bounds, hd, h1]
  · omega
  · rw [hd, h1]; omega
  · rw [hd, h1]; omega

end Cert.Sae
-- ==== Proof.Soft.lean ====
/- The softmax term of one row, over the extended reals: computed piece by piece and rescaled, it is the cross entropy less the mean
   divergence, or both are infinite. -/
module

public import Idealize.ShloMosaic.PureOps.Ideal.Laws

@[expose] public section

noncomputable section

namespace Cert.Sae

open Idealize.ShloMosaic

/-! ## Infinite values -/

/-- One of the two infinities. -/
def Inf (x : EReal) : Prop := x = ⊥ ∨ x = ⊤

theorem inf_or_coe (x : EReal) : Inf x ∨ ∃ r : ℝ, x = r := by
  induction x using EReal.rec with
  | bot => exact .inl (.inl rfl)
  | top => exact .inl (.inr rfl)
  | coe r => exact .inr ⟨r, rfl⟩

theorem Inf.add {x : EReal} (h : Inf x) (y : EReal) : Inf (x + y) := by
  rcases h with rfl | rfl
  · exact .inl (EReal.bot_add y)
  · induction y using EReal.rec with
    | bot => exact .inl rfl
    | top => exact .inr rfl
    | coe r => exact .inr rfl

theorem Inf.add_right {y : EReal} (h : Inf y) (x : EReal) : Inf (x + y) := add_comm y x ▸ h.add x

theorem Inf.neg {x : EReal} (h : Inf x) : Inf (-x) := by
  rcases h with rfl | rfl
  · exact .inr rfl
  · exact .inl rfl

theorem Inf.sub {x : EReal} (h : Inf x) (y : EReal) : Inf (x - y) := sub_eq_add_neg x y ▸ h.add (-y)

theorem Inf.sub_right {y : EReal} (h : Inf y) (x : EReal) : Inf (x - y) := sub_eq_add_neg x y ▸ h.neg.add_right x

theorem Inf.sum {ι : Type} [Fintype ι] {f : ι → EReal} {i : ι} (h : Inf (f i)) : Inf (∑ i, f i) := by
  classical
  rw [← Finset.add_sum_erase Finset.univ f (Finset.mem_univ i)]
  exact h.add _

theorem Inf.coe_mul {x : EReal} (h : Inf x) {r : ℝ} (hr : 0 < r) : Inf (r * x) := by
  rcases h with rfl | rfl
  · exact .inl (EReal.coe_mul_bot_of_pos hr)
  · exact .inr (EReal.coe_mul_top_of_pos hr)

theorem Inf.div {x : EReal} (h : Inf x) {r : ℝ} (hr : 0 < r) : Inf (Ideal.div x r) := by
  rw [Ideal.div_coe hr.ne', mul_comm]
  exact h.coe_mul (by positivity)

theorem not_inf_coe (r : ℝ) : ¬ Inf (r : EReal) := by
  rintro (h | h)
  · exact EReal.coe_ne_bot r h
  · exact EReal.coe_ne_top r h

theorem div_real (x : ℝ) {y : ℝ} (h : y ≠ 0) : Ideal.div (x : EReal) (y : EReal) = ((x / y : ℝ) : EReal) := by
  rw [Ideal.div_coe h, ← EReal.coe_mul, mul_one_div]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The greatest entry -/

/-- The greatest of finitely many values. -/
def mx {ι : Type} [Fintype ι] (f : ι → EReal) : EReal := Finset.univ.sup f

theorem le_mx {ι : Type} [Fintype ι] (f : ι → EReal) (i : ι) : f i ≤ mx f := Finset.le_sup (f := f) (Finset.mem_univ i)

theorem mx_attained {ι : Type} [Fintype ι] [Nonempty ι] (f : ι → EReal) : ∃ i, f i = mx f := by
  obtain ⟨i, _, h⟩ := Finset.exists_mem_eq_sup Finset.univ Finset.univ_nonempty f
  exact ⟨i, h.symm⟩

theorem mx_pair {κ ι : Type} [Fintype κ] [Fintype ι] (f : κ → ι → EReal) : mx (fun p : κ × ι => f p.1 p.2) = mx fun a => mx (f a) := by
  apply le_antisymm
  · exact Finset.sup_le fun p _ => (le_mx (f p.1) p.2).trans (le_mx (fun a => mx (f a)) p.1)
  · exact Finset.sup_le fun a _ => Finset.sup_le fun j _ => le_mx (fun p : κ × ι => f p.1 p.2) (a, j)

theorem mx_equiv {α β : Type} [Fintype α] [Fintype β] (e : α ≃ β) (f : β → EReal) : mx (fun a => f (e a)) = mx f := by
  apply le_antisymm
  · exact Finset.sup_le fun a _ => le_mx f (e a)
  · refine Finset.sup_le fun b _ => ?_
    have := le_mx (fun a => f (e a)) (e.symm b)
    simpa using this

/-! ## The exponential of a difference -/

theorem sub_of_inf {m x : EReal} (hm : Inf m) (h : x ≤ m) : x - m = ⊥ := by
  rcases hm with rfl | rfl
  · rw [le_bot_iff.mp h]; rfl
  · rw [sub_eq_add_neg]; exact EReal.add_bot x

theorem exp_sub_of_inf {m x : EReal} (hm : Inf m) (h : x ≤ m) : Ideal.exp (x - m) = 0 := by
  rw [sub_of_inf hm h]; rfl

/-- The real exponential of a difference with a real number, zero at the lower infinity. -/
def rexp (x : EReal) (r : ℝ) : ℝ := if x = ⊥ then 0 else Real.exp (x.toReal - r)

theorem rexp_nonneg (x : EReal) (r : ℝ) : 0 ≤ rexp x r := by
  unfold rexp; split
  · exact le_refl _
  · exact (Real.exp_pos _).le

theorem rexp_coe (x r : ℝ) : rexp (x : EReal) r = Real.exp (x - r) := by
  rw [rexp, if_neg (EReal.coe_ne_bot x), EReal.toReal_coe]

theorem bot_or_coe {x : EReal} {r : ℝ} (h : x ≤ r) : x = ⊥ ∨ ∃ y : ℝ, x = y := by
  rcases inf_or_coe x with (rfl | rfl) | ⟨y, rfl⟩
  · exact .inl rfl
  · exact absurd (top_le_iff.mp h) (EReal.coe_ne_top r)
  · exact .inr ⟨y, rfl⟩

theorem exp_sub {x : EReal} {r : ℝ} (h : x ≤ r) : Ideal.exp (x - r) = (rexp x r : EReal) := by
  rcases bot_or_coe h with rfl | ⟨y, rfl⟩
  · rw [rexp, if_pos rfl, EReal.bot_sub]; rfl
  · rw [rexp_coe, ← EReal.coe_sub]; rfl

/-- A piece's exponential: at its own greatest value when that is real. -/
def pexp (x m : EReal) : ℝ := if m = ⊥ then 0 else rexp x m.toReal

theorem exp_sub_piece {x m : EReal} {r : ℝ} (hm : m ≤ r) (h : x ≤ m) : Ideal.exp (x - m) = (pexp x m : EReal) := by
  rcases bot_or_coe hm with rfl | ⟨y, rfl⟩
  · rw [pexp, if_pos rfl, exp_sub_of_inf (.inl rfl) h]; rfl
  · rw [pexp, if_neg (EReal.coe_ne_bot y), EReal.toReal_coe, exp_sub h]

theorem rescale {x m : EReal} {r : ℝ} (hm : m ≤ r) (h : x ≤ m) : rexp m r * pexp x m = rexp x r := by
  rcases bot_or_coe hm with rfl | ⟨y, rfl⟩
  · rw [le_bot_iff.mp h, rexp, if_pos rfl, zero_mul]
  · rw [pexp, if_neg (EReal.coe_ne_bot y), EReal.toReal_coe, rexp_coe]
    rcases bot_or_coe h with rfl | ⟨z, rfl⟩
    · simp [rexp]
    · rw [rexp_coe, rexp_coe, ← Real.exp_add]; congr 1; ring

/-! ## The two forms of a row's term -/

/-- The term computed piece by piece, every piece rescaled to the common greatest entry. -/
def kTerm {κ ι : Type} [Fintype κ] [Fintype ι] (n : ℝ) (d o : κ → ι → EReal) : EReal :=
  let z := ∑ a, Ideal.exp (mx (d a) - mx fun a => mx (d a)) * ∑ j, Ideal.exp (d a j - mx (d a))
  let tO := Ideal.div (∑ a, Ideal.exp (mx (d a) - mx fun a => mx (d a)) * ∑ j, Ideal.exp (d a j - mx (d a)) * o a j) z
  let tD := Ideal.div (∑ a, Ideal.exp (mx (d a) - mx fun a => mx (d a)) * ∑ j, Ideal.exp (d a j - mx (d a)) * d a j) z
  let zo := ∑ a, Ideal.exp (mx (o a) - mx fun a => mx (o a)) * ∑ j, Ideal.exp (o a j - mx (o a))
  let bigP := tO - ((mx fun a => mx (o a)) + Ideal.log zo)
  let bigT := tD - ((mx fun a => mx (d a)) + Ideal.log z)
  0 - bigP - Ideal.div (bigT - bigP) n

/-- The softmax of a row. -/
def soft {ι : Type} [Fintype ι] (d : ι → EReal) (j : ι) : EReal := Ideal.div (Ideal.exp (d j - mx d)) (∑ j, Ideal.exp (d j - mx d))

/-- The logarithm of the softmax of a row. -/
def logSoft {ι : Type} [Fintype ι] (o : ι → EReal) (j : ι) : EReal := (o j - mx o) - Ideal.log (∑ j, Ideal.exp (o j - mx o))

/-- A row's cross entropy with its sign turned. -/
def ceTerm {ι : Type} [Fintype ι] (d o : ι → EReal) : EReal := ∑ j, soft d j * logSoft o j

/-- A row's divergence. -/
def klTerm {ι : Type} [Fintype ι] (d o : ι → EReal) : EReal := ∑ j, soft d j * (Ideal.log (soft d j) - logSoft o j)

theorem soft_equiv {α β : Type} [Fintype α] [Fintype β] (e : α ≃ β) (d : β → EReal) (a : α) :
    soft (fun a => d (e a)) a = soft d (e a) := by
  simp only [soft, mx_equiv e d]
  rw [Equiv.sum_comp e fun b => Ideal.exp (d b - mx d)]

theorem logSoft_equiv {α β : Type} [Fintype α] [Fintype β] (e : α ≃ β) (d : β → EReal) (a : α) :
    logSoft (fun a => d (e a)) a = logSoft d (e a) := by
  simp only [logSoft, mx_equiv e d]
  rw [Equiv.sum_comp e fun b => Ideal.exp (d b - mx d)]

theorem ceTerm_equiv {α β : Type} [Fintype α] [Fintype β] (e : α ≃ β) (d o : β → EReal) :
    ceTerm (fun a => d (e a)) (fun a => o (e a)) = ceTerm d o := by
  simp only [ceTerm, soft_equiv e d, logSoft_equiv e o]
  rw [Equiv.sum_comp e fun b => soft d b * logSoft o b]

theorem klTerm_equiv {α β : Type} [Fintype α] [Fintype β] (e : α ≃ β) (d o : β → EReal) :
    klTerm (fun a => d (e a)) (fun a => o (e a)) = klTerm d o := by
  simp only [klTerm, soft_equiv e d, logSoft_equiv e o]
  rw [Equiv.sum_comp e fun b => soft d b * (Ideal.log (soft d b) - logSoft o b)]

section row

variable {κ ι : Type} [Fintype κ] [Fintype ι] [Nonempty κ] [Nonempty ι] (n : ℝ) (d o : κ → ι → EReal)

theorem le_top (d : κ → ι → EReal) (a : κ) (j : ι) : d a j ≤ mx fun a => mx (d a) :=
  (le_mx (d a) j).trans (le_mx (fun a => mx (d a)) a)

theorem inf_kTerm_of_P {p t : EReal} (h : Inf p) : Inf (0 - p - Ideal.div t n) := (h.sub_right 0).sub _

/-- An infinite greatest data entry. -/
theorem row_data_inf (h : Inf (mx fun a => mx (d a))) :
    Inf (kTerm n d o) ∧ Inf (klTerm (fun p : κ × ι => d p.1 p.2) fun p => o p.1 p.2) := by
  constructor
  · unfold kTerm
    refine inf_kTerm_of_P n (Inf.sub ?_ _)
    have e : ∀ a, Ideal.exp (mx (d a) - mx fun a => mx (d a)) = 0 := fun a => exp_sub_of_inf h (le_mx (fun a => mx (d a)) a)
    simp only [e, zero_mul, Finset.sum_const_zero]
    simp [Ideal.div, Inf]
  · have hs : ∀ p : κ × ι, soft (fun p : κ × ι => d p.1 p.2) p = ⊥ := by
      intro p
      simp only [soft, mx_pair d]
      have e : ∀ q : κ × ι, Ideal.exp (d q.1 q.2 - mx fun a => mx (d a)) = 0 := fun q => exp_sub_of_inf h (le_top d q.1 q.2)
      simp only [e, Finset.sum_const_zero]
      simp [Ideal.div]
    unfold klTerm
    refine Inf.sum (i := Classical.arbitrary (κ × ι)) ?_
    rw [hs, Ideal.log_bot, sub_eq_add_neg, EReal.bot_add]
    exact .inr EReal.bot_mul_bot

/-- The common sum of exponentials, its real form. -/
theorem z_eq (d : κ → ι → EReal) {m : ℝ} (h : (mx fun a => mx (d a)) = m) :
    (∑ a, Ideal.exp (mx (d a) - mx fun a => mx (d a)) * ∑ j, Ideal.exp (d a j - mx (d a)))
      = ((∑ a, ∑ j, rexp (d a j) m : ℝ) : EReal) := by
  rw [h, coe_sum]
  refine Finset.sum_congr rfl fun a _ => ?_
  have hm : mx (d a) ≤ (m : EReal) := h ▸ le_mx (fun a => mx (d a)) a
  rw [exp_sub hm, Finset.sum_congr rfl fun j _ => exp_sub_piece hm (le_mx (d a) j), ← coe_sum, ← EReal.coe_mul, Finset.mul_sum]
  exact congrArg _ (Finset.sum_congr rfl fun j _ => rescale hm (le_mx (d a) j))

/-- A weighted sum of exponentials, its real form. -/
theorem w_eq (d x : κ → ι → EReal) (y : κ → ι → ℝ) {m : ℝ} (h : (mx fun a => mx (d a)) = m)
    (hx : ∀ a j, d a j = ⊥ ∨ x a j = y a j) :
    (∑ a, Ideal.exp (mx (d a) - mx fun a => mx (d a)) * ∑ j, Ideal.exp (d a j - mx (d a)) * x a j)
      = ((∑ a, ∑ j, rexp (d a j) m * y a j : ℝ) : EReal) := by
  rw [h, coe_sum]
  refine Finset.sum_congr rfl fun a _ => ?_
  have hm : mx (d a) ≤ (m : EReal) := h ▸ le_mx (fun a => mx (d a)) a
  have e : ∀ j, Ideal.exp (d a j - mx (d a)) * x a j = ((pexp (d a j) (mx (d a)) * y a j : ℝ) : EReal) := fun j => by
    rw [exp_sub_piece hm (le_mx (d a) j)]
    rcases hx a j with hb | hr
    · have : pexp (d a j) (mx (d a)) = 0 := by rw [hb]; unfold pexp rexp; split <;> simp
      rw [this]; simp
    · rw [hr, EReal.coe_mul]
  rw [exp_sub hm, Finset.sum_congr rfl fun j _ => e j, ← coe_sum, ← EReal.coe_mul, Finset.mul_sum]
  refine congrArg _ (Finset.sum_congr rfl fun j _ => ?_)
  rw [← mul_assoc, rescale hm (le_mx (d a) j)]

theorem zsum_pos (d : κ → ι → EReal) {m : ℝ} (h : (mx fun a => mx (d a)) = m) : 0 < ∑ a, ∑ j, rexp (d a j) m := by
  obtain ⟨a, ha⟩ := mx_attained fun a => mx (d a)
  obtain ⟨j, hj⟩ := mx_attained (d a)
  have e : d a j = m := hj.trans (ha.trans h)
  have : rexp (d a j) m = 1 := by rw [e, rexp_coe, sub_self, Real.exp_zero]
  calc (0 : ℝ) < rexp (d a j) m := by rw [this]; exact one_pos
    _ ≤ ∑ j, rexp (d a j) m := Finset.single_le_sum (f := fun j => rexp (d a j) m) (fun j _ => rexp_nonneg _ _) (Finset.mem_univ j)
    _ ≤ _ := Finset.single_le_sum (f := fun a => ∑ j, rexp (d a j) m) (fun a _ => Finset.sum_nonneg fun j _ => rexp_nonneg _ _) (Finset.mem_univ a)

theorem pair_sum (d : κ → ι → EReal) {m : ℝ} (h : (mx fun a => mx (d a)) = m) :
    (∑ p : κ × ι, Ideal.exp (d p.1 p.2 - mx fun p : κ × ι => d p.1 p.2)) = ((∑ a, ∑ j, rexp (d a j) m : ℝ) : EReal) := by
  rw [mx_pair d, h, Fintype.sum_prod_type, coe_sum]
  refine Finset.sum_congr rfl fun a _ => ?_
  rw [coe_sum]
  exact Finset.sum_congr rfl fun j _ => exp_sub (h ▸ le_top d a j)

theorem soft_eq {m : ℝ} (h : (mx fun a => mx (d a)) = m) (p : κ × ι) :
    soft (fun p : κ × ι => d p.1 p.2) p = ((rexp (d p.1 p.2) m / ∑ a, ∑ j, rexp (d a j) m : ℝ) : EReal) := by
  unfold soft
  rw [pair_sum d h, mx_pair d, h, exp_sub (h ▸ le_top d p.1 p.2), div_real _ (zsum_pos d h).ne']

/-- A real greatest data entry beside an infinite greatest output. -/
theorem row_out_inf {m : ℝ} (h : (mx fun a => mx (d a)) = m) (ho : Inf (mx fun a => mx (o a))) :
    Inf (kTerm n d o) ∧ Inf (ceTerm (fun p : κ × ι => d p.1 p.2) fun p => o p.1 p.2) := by
  constructor
  · unfold kTerm
    refine inf_kTerm_of_P n (Inf.sub_right (Inf.add_right ?_ _) _)
    have e : ∀ a, Ideal.exp (mx (o a) - mx fun a => mx (o a)) = 0 := fun a => exp_sub_of_inf ho (le_mx (fun a => mx (o a)) a)
    simp only [e, zero_mul, Finset.sum_const_zero]
    refine .inl ?_
    rw [← EReal.coe_zero, Ideal.log_coe, if_pos le_rfl]
  · obtain ⟨a, ha⟩ := mx_attained fun a => mx (d a)
    obtain ⟨j, hj⟩ := mx_attained (d a)
    have e : d a j = m := hj.trans (ha.trans h)
    refine Inf.sum (i := (a, j)) ?_
    rw [soft_eq d h]
    refine Inf.coe_mul ?_ (div_pos ?_ (zsum_pos d h))
    · unfold logSoft
      refine Inf.sub (.inl ?_) _
      rw [mx_pair o]
      exact sub_of_inf ho (le_top o a j)
    · change 0 < rexp (d a j) m
      rw [e, rexp_coe]; exact Real.exp_pos _

/-- Real greatest entries, and an output at the lower infinity where the data is not. -/
theorem row_out_bot {m mo : ℝ} (h : (mx fun a => mx (d a)) = m) (ho : (mx fun a => mx (o a)) = mo) {a : κ} {j : ι}
    (hd : d a j ≠ ⊥) (hb : o a j = ⊥) :
    Inf (kTerm n d o) ∧ Inf (ceTerm (fun p : κ × ι => d p.1 p.2) fun p => o p.1 p.2) := by
  have hm : mx (d a) ≤ (m : EReal) := h ▸ le_mx (fun a => mx (d a)) a
  obtain ⟨x, hx⟩ := (bot_or_coe (h ▸ le_top d a j : d a j ≤ (m : EReal))).resolve_left hd
  obtain ⟨y, hy⟩ := (bot_or_coe hm).resolve_left fun hb => hd (le_bot_iff.mp (hb ▸ le_mx (d a) j))
  constructor
  · unfold kTerm
    refine inf_kTerm_of_P n (Inf.sub ?_ _)
    rw [z_eq d h]
    refine Inf.div (Inf.sum (i := a) ?_) (zsum_pos d h)
    rw [h, exp_sub hm, hy, rexp_coe]
    refine Inf.coe_mul (Inf.sum (i := j) ?_) (Real.exp_pos _)
    rw [hx, ← EReal.coe_sub, Ideal.exp_coe]
    exact Inf.coe_mul (.inl hb) (Real.exp_pos _)
  · refine Inf.sum (i := (a, j)) ?_
    rw [soft_eq d h]
    refine Inf.coe_mul ?_ (div_pos ?_ (zsum_pos d h))
    · unfold logSoft
      refine Inf.sub (Inf.sub (.inl hb) _) _
    · change 0 < rexp (d a j) m
      rw [hx, rexp_coe]; exact Real.exp_pos _

/-- Real greatest entries, and a real output wherever the data is not at the lower infinity. -/
theorem row_real (hn : n ≠ 0) {m mo : ℝ} (h : (mx fun a => mx (d a)) = m) (ho : (mx fun a => mx (o a)) = mo)
    (hb : ∀ a j, d a j ≠ ⊥ → o a j ≠ ⊥) :
    ∃ x y : ℝ, ceTerm (fun p : κ × ι => d p.1 p.2) (fun p => o p.1 p.2) = x ∧
      klTerm (fun p : κ × ι => d p.1 p.2) (fun p => o p.1 p.2) = y ∧ kTerm n d o = ((-x - y / n : ℝ) : EReal) := by
  have hdr : ∀ a j, d a j = ⊥ ∨ d a j = (d a j).toReal := fun a j => by
    rcases bot_or_coe (h ▸ le_top d a j : d a j ≤ (m : EReal)) with hb | ⟨y, hy⟩
    · exact .inl hb
    · rw [hy]; exact .inr (by rw [EReal.toReal_coe])
  have hor : ∀ a j, d a j = ⊥ ∨ o a j = (o a j).toReal := fun a j => by
    by_cases hd : d a j = ⊥
    · exact .inl hd
    · obtain ⟨y, hy⟩ := (bot_or_coe (ho ▸ le_top o a j : o a j ≤ (mo : EReal))).resolve_left (hb a j hd)
      rw [hy]; exact .inr (by rw [EReal.toReal_coe])
  have hz := zsum_pos d h
  have hzo := zsum_pos o ho
  set z := ∑ a, ∑ j, rexp (d a j) m with hzd
  set zo := ∑ a, ∑ j, rexp (o a j) mo with hzod
  set sO := ∑ a, ∑ j, rexp (d a j) m * (o a j).toReal with hsO
  set sD := ∑ a, ∑ j, rexp (d a j) m * (d a j).toReal with hsD
  have hce : ∀ p : κ × ι, soft (fun p : κ × ι => d p.1 p.2) p * logSoft (fun p : κ × ι => o p.1 p.2) p
      = ((rexp (d p.1 p.2) m / z * ((o p.1 p.2).toReal - mo - Real.log zo) : ℝ) : EReal) := fun p => by
    rw [soft_eq d h, logSoft, pair_sum o ho, mx_pair o, ho, Ideal.log_coe, if_neg (not_le.mpr hzo)]
    rcases hor p.1 p.2 with hd | hr
    · rw [hd]; simp [rexp]
    · rw [hr, ← EReal.coe_sub, ← EReal.coe_sub, ← EReal.coe_mul, EReal.toReal_coe]
  have hkl : ∀ p : κ × ι, soft (fun p : κ × ι => d p.1 p.2) p *
      (Ideal.log (soft (fun p : κ × ι => d p.1 p.2) p) - logSoft (fun p : κ × ι => o p.1 p.2) p)
      = ((rexp (d p.1 p.2) m / z * (((d p.1 p.2).toReal - m - Real.log z) - ((o p.1 p.2).toReal - mo - Real.log zo)) : ℝ) : EReal) := fun p => by
    rw [soft_eq d h, logSoft, pair_sum o ho, mx_pair o, ho, Ideal.log_coe (r := zo), if_neg (not_le.mpr hzo)]
    rcases hor p.1 p.2 with hd | hr
    · rw [hd]; simp [rexp]
    · rcases hdr p.1 p.2 with hd | hx
      · rw [hd]; simp [rexp]
      · have hp : 0 < rexp (d p.1 p.2) m := by rw [hx, rexp_coe]; exact Real.exp_pos _
        have hl : Real.log (rexp (d p.1 p.2) m / z) = (d p.1 p.2).toReal - m - Real.log z := by
          rw [Real.log_div hp.ne' hz.ne', hx, rexp_coe, Real.log_exp, EReal.toReal_coe]
        rw [Ideal.log_coe, if_neg (not_le.mpr (div_pos hp hz)), hl, hr, ← EReal.coe_sub, ← EReal.coe_sub, ← EReal.coe_sub, ← EReal.coe_mul,
          EReal.toReal_coe]
  have h1 : (∑ p : κ × ι, rexp (d p.1 p.2) m / z) = 1 := by
    rw [← Finset.sum_div, Fintype.sum_prod_type, div_self hz.ne']
  have h2 : (∑ p : κ × ι, rexp (d p.1 p.2) m / z * (o p.1 p.2).toReal) = sO / z := by
    rw [hsO, ← Fintype.sum_prod_type (fun p : κ × ι => rexp (d p.1 p.2) m * (o p.1 p.2).toReal), Finset.sum_div]
    exact Finset.sum_congr rfl fun p _ => by ring
  have h3 : (∑ p : κ × ι, rexp (d p.1 p.2) m / z * (d p.1 p.2).toReal) = sD / z := by
    rw [hsD, ← Fintype.sum_prod_type (fun p : κ × ι => rexp (d p.1 p.2) m * (d p.1 p.2).toReal), Finset.sum_div]
    exact Finset.sum_congr rfl fun p _ => by ring
  have e1 : (∑ p : κ × ι, rexp (d p.1 p.2) m / z * ((o p.1 p.2).toReal - mo - Real.log zo)) = sO / z - (mo + Real.log zo) := by
    have : ∀ p : κ × ι, rexp (d p.1 p.2) m / z * ((o p.1 p.2).toReal - mo - Real.log zo)
        = rexp (d p.1 p.2) m / z * (o p.1 p.2).toReal - rexp (d p.1 p.2) m / z * (mo + Real.log zo) := fun p => by ring
    rw [Finset.sum_congr rfl fun p _ => this p, Finset.sum_sub_distrib, h2, ← Finset.sum_mul, h1, one_mul]
  have e2 : (∑ p : κ × ι, rexp (d p.1 p.2) m / z * (((d p.1 p.2).toReal - m - Real.log z) - ((o p.1 p.2).toReal - mo - Real.log zo)))
      = (sD / z - (m + Real.log z)) - (sO / z - (mo + Real.log zo)) := by
    have : ∀ p : κ × ι, rexp (d p.1 p.2) m / z * (((d p.1 p.2).toReal - m - Real.log z) - ((o p.1 p.2).toReal - mo - Real.log zo))
        = rexp (d p.1 p.2) m / z * (d p.1 p.2).toReal - rexp (d p.1 p.2) m / z * (m + Real.log z)
          - rexp (d p.1 p.2) m / z * ((o p.1 p.2).toReal - mo - Real.log zo) := fun p => by ring
    rw [Finset.sum_congr rfl fun p _ => this p, Finset.sum_sub_distrib, Finset.sum_sub_distrib, h3, ← Finset.sum_mul, h1, one_mul, e1]
  refine ⟨sO / z - (mo + Real.log zo), (sD / z - (m + Real.log z)) - (sO / z - (mo + Real.log zo)), ?_, ?_, ?_⟩
  · rw [ceTerm, Finset.sum_congr rfl fun p _ => hce p, ← coe_sum, e1]
  · rw [klTerm, Finset.sum_congr rfl fun p _ => hkl p, ← coe_sum, e2]
  · unfold kTerm
    rw [z_eq d h, z_eq o ho, w_eq d o (fun a j => (o a j).toReal) h hor, w_eq d d (fun a j => (d a j).toReal) h hdr, h, ho]
    simp only [← hzd, ← hzod, ← hsO, ← hsD, Ideal.log_coe, if_neg (not_le.mpr hz), if_neg (not_le.mpr hzo)]
    rw [div_real _ hz.ne', div_real _ hz.ne', ← EReal.coe_add, ← EReal.coe_add, ← EReal.coe_sub, ← EReal.coe_sub, ← EReal.coe_sub,
      div_real _ hn, ← EReal.coe_zero, ← EReal.coe_sub, ← EReal.coe_sub]
    congr 1
    ring

/-- A row's term: real and the cross entropy less the mean divergence, or infinite beside an infinite one of the two. -/
theorem row_term (hn : n ≠ 0) :
    (∃ x y : ℝ, ceTerm (fun p : κ × ι => d p.1 p.2) (fun p => o p.1 p.2) = x ∧
      klTerm (fun p : κ × ι => d p.1 p.2) (fun p => o p.1 p.2) = y ∧ kTerm n d o = ((-x - y / n : ℝ) : EReal)) ∨
    (Inf (kTerm n d o) ∧ (Inf (ceTerm (fun p : κ × ι => d p.1 p.2) fun p => o p.1 p.2) ∨
      Inf (klTerm (fun p : κ × ι => d p.1 p.2) fun p => o p.1 p.2))) := by
  rcases inf_or_coe (mx fun a => mx (d a)) with h | ⟨m, h⟩
  · exact .inr ⟨(row_data_inf n d o h).1, .inr (row_data_inf n d o h).2⟩
  rcases inf_or_coe (mx fun a => mx (o a)) with ho | ⟨mo, ho⟩
  · exact .inr ⟨(row_out_inf n d o h ho).1, .inl (row_out_inf n d o h ho).2⟩
  by_cases hb : ∀ a j, d a j ≠ ⊥ → o a j ≠ ⊥
  · exact .inl (row_real n d o hn h ho hb)
  · push Not at hb
    obtain ⟨a, j, hd, hb⟩ := hb
    exact .inr ⟨(row_out_bot n d o h ho hd hb).1, .inl (row_out_bot n d o h ho hd hb).2⟩

end row

end Cert.Sae
-- ==== Proof.Lanes.lean ====
/- What each of the fifteen values of one block is: a sum over the block's rows. -/
module

public import proofs.«01_k».proof.Proof.Sort
public import proofs.«01_k».proof.Proof.Soft

@[expose] public section

set_option maxRecDepth 16384

noncomputable section

namespace Cert.Sae

open Idealize.ShloMosaic Cert.KernelIdeal Cert.KernelIdeal.Gen

/-- Row `r` of a block. -/
def row {n m : ℕ} {α : Type} (x : (⟨2, ![n, m]⟩ : Shape).Idx → α) (r : Fin n) : Fin m → α := fun j => x (ix2 r j)

/-! ## Constants -/

theorem c127 : Ideal.ofBits .f32 0x42FE0000#32 = ((127 : ℝ) : EReal) := by
  simp [Ideal.ofBits, Ideal.ieee]; rw [← EReal.coe_mul]; norm_num

theorem c1024 : Ideal.ofBits .f32 0x44800000#32 = ((1024 : ℝ) : EReal) := by
  simp [Ideal.ofBits, Ideal.ieee]; rw [← EReal.coe_mul]; norm_num

theorem c2048 : Ideal.ofBits .f32 0x45000000#32 = ((2048 : ℝ) : EReal) := by
  simp [Ideal.ofBits, Ideal.ieee]; rw [← EReal.coe_mul]; norm_num

theorem c3072 : Ideal.ofBits .f32 0x45400000#32 = ((3072 : ℝ) : EReal) := by
  simp [Ideal.ofBits, Ideal.ieee]; rw [← EReal.coe_mul]; norm_num

theorem cBot : Ideal.ofBits .f32 0xFF800000#32 = ⊥ := by
  simp [Ideal.ofBits, Ideal.ieee]

/-! ## The codes -/

/-- The code of one entry, the bins starting at `lo`. -/
def codeW (lo x : EReal) : BitVec 32 :=
  Ideal.fptosi 32 (min ((127 : ℝ) : EReal) (max 0 (Ideal.liftRound Int.ceil (Ideal.div (x - lo) (Ideal.ofBits .f32 0x3E333333#32)) - 1)))

theorem codes_apply (x : Vec Ideal S16x1024 .f32) (lo : EReal) (r : Fin 16) (j : Fin 1024) :
    codes (F := Ideal) x lo (ix2 r j) = codeW lo (x (ix2 r j)) := by
  unfold codes
  pointwise
  rw [c127]
  rfl

/-- A code is at most 127. -/
theorem codeW_lt (lo x : EReal) : (codeW lo x).toNat < 128 := by
  unfold codeW
  generalize Ideal.liftRound Int.ceil (Ideal.div (x - lo) (Ideal.ofBits .f32 0x3E333333#32)) - 1 = y
  generalize hz : min ((127 : ℝ) : EReal) (max 0 y) = z
  have h1 : z ≤ ((127 : ℝ) : EReal) := hz ▸ min_le_left _ _
  have h0 : ((0 : ℝ) : EReal) ≤ z := hz ▸ le_min (by exact_mod_cast (by norm_num : (0 : ℝ) ≤ 127)) (le_max_left _ _)
  induction z using EReal.rec with
  | bot => exact absurd h0 (by simp)
  | top => exact absurd h1 (by simp)
  | coe r =>
    have h1' : r ≤ 127 := by exact_mod_cast h1
    have h0' : 0 ≤ r := by exact_mod_cast h0
    unfold Ideal.fptosi
    rw [Ideal.toIntClamped_coe, if_pos h0']
    have f0 : 0 ≤ ⌊r⌋ := Int.floor_nonneg.mpr h0'
    have f1 : ⌊r⌋ ≤ 127 := by
      have : (⌊r⌋ : ℝ) ≤ 127 := (Int.floor_le r).trans h1'
      exact_mod_cast this
    rw [min_eq_right (by norm_num; omega), max_eq_right (by norm_num; omega), BitVec.toNat_ofInt]
    omega

/-! ## The histograms -/

theorem foldl_addf {s : Shape} {α : Type} (L : List α) (z : FVec Ideal s .f32) (g : α → FVec Ideal s .f32) (i : s.Idx) :
    (L.foldl (fun acc a => addf acc (g a)) z) i = z i + (L.map fun a => g a i).sum := by
  induction L generalizing z with
  | nil => simp
  | cons a L ih =>
    rw [List.foldl_cons, ih, List.map_cons, List.sum_cons, ← add_assoc]
    rfl

theorem sum_rows {s : Shape} (g : Fin 16 → FVec Ideal s .f32) (i : s.Idx) :
    ((List.finRange 16).foldl (fun acc r => addf acc (g r)) (broadcast s (Scalar.ofBits .f32 0x00000000#32))) i = ∑ r, g r i := by
  rw [foldl_addf, ← Fin.sum_univ_def]
  pointwise

theorem laneSum_apply (v : FVec Ideal S1x128 .f32) : laneSum v = ∑ c, v (ix2 0 c) := by
  unfold laneSum
  pointwise
  exact Fin.sum_univ_one _

theorem colSum_apply (v : FVec Ideal S128x128 .f32) (c : Fin 128) : colSum v (ix2 0 c) = ∑ b, v (ix2 b c) := by
  unfold colSum
  pointwise

/-- A code as a bin. -/
def bin (w : BitVec 32) : Fin 128 := ⟨w.toNat % 128, Nat.mod_lt _ (by decide)⟩

theorem bin_inj {v w : BitVec 32} (hv : v.toNat < 128) (hw : w.toNat < 128) : bin v = bin w ↔ v = w := by
  rw [bin, bin, Fin.mk.injEq, Nat.mod_eq_of_lt hv, Nat.mod_eq_of_lt hw]
  exact ⟨BitVec.eq_of_toNat_eq, congrArg _⟩

theorem oneHot_apply (a : IVec S16x1024 32) (ha : ∀ i, (a i).toNat < 128) (r : Fin 16) (c : Fin 128) (j : Fin 1024) :
    oneHot (F := Ideal) a r (ix2 c j) = ((if bin (row a r j) = c then 1 else 0 : ℝ) : EReal) := by
  unfold oneHot bins
  pointwise
  have h1 : ∀ w : BitVec 32, FloatOps.sitofp (F := Ideal) .bf16 w = ((w.toInt : ℝ) : EReal) := fun _ => rfl
  have hw := ha (ix2 r j)
  have hc := c.isLt
  have e : (FloatOps.sitofp (F := Ideal) .bf16 (BitVec.ofNat 32 c.val) = FloatOps.sitofp (F := Ideal) .bf16 (a (ix2 r j)))
      ↔ bin (row a r j) = c := by
    rw [h1, h1, EReal.coe_eq_coe_iff, Int.cast_inj, bin, row, Fin.ext_iff]
    simp only
    rw [Nat.mod_eq_of_lt hw, BitVec.toInt_eq_toNat_cond, BitVec.toInt_eq_toNat_cond, BitVec.toNat_ofNat,
      Nat.mod_eq_of_lt (by omega), if_pos (by omega), if_pos (by omega)]
    omega
  by_cases h : bin (row a r j) = c
  · rw [if_pos (e.mpr h), if_pos h]; rfl
  · rw [if_neg (fun h' => h (e.mp h')), if_neg h]; rfl

/-- A joint histogram's entry: how many entries of the row have the two codes. -/
theorem hist_apply (a b : IVec S16x1024 32) (ha : ∀ i, (a i).toNat < 128) (hb : ∀ i, (b i).toNat < 128) (r : Fin 16) (c d : Fin 128) :
    hist (F := Ideal) a b r (ix2 c d)
      = (((Finset.univ.filter fun j => (bin (row a r j), bin (row b r j)) = (c, d)).card : ℝ) : EReal) := by
  unfold hist
  pointwise
  simp only [oneHot_apply a ha, oneHot_apply b hb, ← EReal.coe_mul]
  rw [← coe_sum, EReal.coe_eq_coe_iff, ← Finset.sum_boole]
  refine Finset.sum_congr rfl fun j _ => ?_
  by_cases h1 : bin (row a r j) = c <;> by_cases h2 : bin (row b r j) = d <;> simp [h1, h2]

theorem xlogx_apply {s : Shape} (h : FVec Ideal s .f32) (i : s.Idx) (x : ℝ) (hx : h i = (x : EReal)) :
    xlogx h i = ((x * Real.log (max x 1) : ℝ) : EReal) := by
  unfold xlogx
  pointwise
  have h1 : (1 : EReal) = ((1 : ℝ) : EReal) := rfl
  have hm : max (x : EReal) ((1 : ℝ) : EReal) = ((max x 1 : ℝ) : EReal) := (EReal.coe_strictMono.monotone.map_max (a := x) (b := 1)).symm
  rw [hx, h1, hm, Ideal.log_coe, if_neg (not_le.mpr (lt_of_lt_of_le one_pos (le_max_right x 1))), EReal.coe_mul]

theorem accJoint_eq (a b : IVec S16x1024 32) (ha : ∀ i, (a i).toNat < 128) (hb : ∀ i, (b i).toNat < 128) :
    laneSum (accJoint (F := Ideal) a b) = ((∑ r, logs (fun j => (row a r j, row b r j)) : ℝ) : EReal) := by
  rw [laneSum_apply]
  unfold accJoint
  simp only [sum_rows, colSum_apply]
  rw [Finset.sum_comm, coe_sum]
  refine Finset.sum_congr rfl fun r _ => ?_
  have ha' : ∀ i, (row a r i).toNat < 128 := fun _ => ha _
  have hb' : ∀ i, (row b r i).toNat < 128 := fun _ => hb _
  rw [← logs_congr (f := fun j => (bin (row a r j), bin (row b r j)))
    (fun i j => by rw [Prod.mk.injEq, Prod.mk.injEq, bin_inj (ha' i) (ha' j), bin_inj (hb' i) (hb' j)]), ← logs_hist, Fintype.sum_prod_type_right,
    coe_sum]
  refine Finset.sum_congr rfl fun c _ => ?_
  rw [coe_sum]
  exact Finset.sum_congr rfl fun d _ => xlogx_apply _ _ _ (hist_apply a b ha hb r d c)

theorem accOne_eq (a b : IVec S16x1024 32) (ha : ∀ i, (a i).toNat < 128) (hb : ∀ i, (b i).toNat < 128) :
    laneSum (accOne (F := Ideal) a b) = ((∑ r, logs (row b r) : ℝ) : EReal) := by
  rw [laneSum_apply]
  unfold accOne
  simp only [sum_rows]
  rw [Finset.sum_comm, coe_sum]
  refine Finset.sum_congr rfl fun r _ => ?_
  rw [← logs_congr (f := fun j => bin (row b r j)) (fun i j => bin_inj (hb _) (hb _)), ← logs_hist, coe_sum]
  refine Finset.sum_congr rfl fun c _ => xlogx_apply _ _ _ ?_
  rw [colSum_apply]
  simp only [hist_apply a b ha hb]
  rw [← coe_sum, EReal.coe_eq_coe_iff, ← Nat.cast_sum, Nat.cast_inj]
  rw [Finset.card_eq_sum_card_fiberwise (f := fun j => bin (row a r j)) (t := Finset.univ) fun _ _ => Finset.mem_univ _]
  refine Finset.sum_congr rfl fun d _ => ?_
  rw [Finset.filter_filter]
  congr 1
  ext j
  simp [and_comm]

/-! ## The run lengths -/

theorem runLogs_eq (x : IVec S16x1024 32) : runLogs (F := Ideal) (sortRows x) = ((∑ r, logs (row x r) : ℝ) : EReal) := by
  unfold runLogs
  pointwise
  rw [coe_sum]
  refine Finset.sum_congr rfl fun r _ => ?_
  have h : logs (row x r) = logs (rowZ (sortRows x) r) := by
    obtain ⟨σ, hσ⟩ := rowZ_perm x r
    rw [hσ, logs_perm (rowZ x r) σ]
    exact logs_congr fun i j => ⟨congrArg BitVec.toInt, BitVec.eq_of_toInt_eq⟩
  rw [h, logs, coe_sum]
  refine Finset.sum_congr rfl fun j _ => ?_
  have hl := run_length (sortRows x) r (rowZ_sorted x r) j
  have h1 : ∀ w : BitVec 32, FloatOps.sitofp (F := Ideal) .f32 w = ((w.toInt : ℝ) : EReal) := fun _ => rfl
  rw [h1]
  change Ideal.log (((addi (subi (runEnd (sortRows x)) (runStart (sortRows x))) (broadcast S16x1024 1#32) (ix2 r j)).toInt : ℝ) : EReal) = _
  rw [hl, Ideal.log_coe, if_neg]
  · rfl
  · rw [not_le]; exact_mod_cast count_pos _ _

/-! ## The softmax terms -/

theorem rowMax_apply (x : Vec Ideal S16x1024 .f32) (r : Fin 16) : rowMax (F := Ideal) x (ix2 r 0) = mx (row x r) := by
  unfold rowMax
  pointwise
  rw [cBot]
  rfl

theorem rowSum_apply (x : Vec Ideal S16x1024 .f32) (r : Fin 16) : rowSum (F := Ideal) x (ix2 r 0) = ∑ j, x (ix2 r j) := by
  unfold rowSum
  pointwise

theorem expRow_apply (x : Vec Ideal S16x1024 .f32) (r : Fin 16) (j : Fin 1024) :
    expRow (F := Ideal) x (ix2 r j) = Ideal.exp (row x r j - mx (row x r)) := by
  unfold expRow
  pointwise
  rw [rowMax_apply]
  rfl

theorem piece_s (d o : Vec Ideal S16x1024 .f32) (r : Fin 16) :
    (piece (F := Ideal) d o).s (ix2 r 0) = ∑ j, Ideal.exp (row d r j - mx (row d r)) := by
  unfold piece
  simp only [rowSum_apply, expRow_apply]

theorem piece_so (d o : Vec Ideal S16x1024 .f32) (r : Fin 16) :
    (piece (F := Ideal) d o).so (ix2 r 0) = ∑ j, Ideal.exp (row o r j - mx (row o r)) := by
  unfold piece
  simp only [rowSum_apply, expRow_apply]

theorem piece_u (d o : Vec Ideal S16x1024 .f32) (r : Fin 16) :
    (piece (F := Ideal) d o).u (ix2 r 0) = ∑ j, Ideal.exp (row d r j - mx (row d r)) * row o r j := by
  unfold piece
  simp only [rowSum_apply]
  refine Finset.sum_congr rfl fun j _ => ?_
  pointwise
  rw [expRow_apply]
  rfl

theorem piece_v (d o : Vec Ideal S16x1024 .f32) (r : Fin 16) :
    (piece (F := Ideal) d o).v (ix2 r 0) = ∑ j, Ideal.exp (row d r j - mx (row d r)) * row d r j := by
  unfold piece
  simp only [rowSum_apply]
  refine Finset.sum_congr rfl fun j _ => ?_
  pointwise
  rw [expRow_apply]
  rfl

theorem piece_m (d o : Vec Ideal S16x1024 .f32) (r : Fin 16) : (piece (F := Ideal) d o).m (ix2 r 0) = mx (row d r) := by
  unfold piece
  simp only [rowMax_apply]

theorem piece_mo (d o : Vec Ideal S16x1024 .f32) (r : Fin 16) : (piece (F := Ideal) d o).mo (ix2 r 0) = mx (row o r) := by
  unfold piece
  simp only [rowMax_apply]

theorem mx_one (f : Fin 1 → EReal) : mx f = f 0 := by
  apply le_antisymm
  · exact Finset.sup_le fun i _ => by match i with | 0 => exact le_rfl
  · exact le_mx f 0

theorem mx_two (f : Fin 2 → EReal) : mx f = max (f 0) (f 1) := by
  apply le_antisymm
  · exact Finset.sup_le fun i _ => by match i with | 0 => exact le_max_left _ _ | 1 => exact le_max_right _ _
  · exact max_le (le_mx f 0) (le_mx f 1)

theorem mx_three (f : Fin 3 → EReal) : mx f = max (max (f 0) (f 1)) (f 2) := by
  apply le_antisymm
  · exact Finset.sup_le fun i _ => by
      match i with
      | 0 => exact (le_max_left _ _).trans (le_max_left _ _)
      | 1 => exact (le_max_right _ _).trans (le_max_left _ _)
      | 2 => exact le_max_right _ _
  · exact max_le (max_le (le_mx f 0) (le_mx f 1)) (le_mx f 2)

theorem xc_apply (p : Piece Ideal) (ps : List (Piece Ideal)) (n : BitVec 32) : xc p ps n = ∑ r, xcRow p ps n (ix2 r 0) := by
  unfold xc
  pointwise
  exact Finset.sum_congr rfl fun r _ => Fin.sum_univ_one _

theorem xc_one (d o : Vec Ideal S16x1024 .f32) :
    xc (F := Ideal) (piece d o) [] 0x44800000#32 = ∑ r, kTerm 1024 (fun a : Fin 1 => row (![d] a) r) (fun a => row (![o] a) r) := by
  rw [xc_apply]
  refine Finset.sum_congr rfl fun r _ => ?_
  unfold xcRow scaled
  pointwise
  simp only [piece_m, piece_mo, piece_s, piece_so, piece_u, piece_v, c1024]
  unfold kTerm
  simp only [mx_one, Fin.sum_univ_one, Matrix.cons_val_zero]

theorem xc_two (d o d' o' : Vec Ideal S16x1024 .f32) :
    xc (F := Ideal) (piece d o) [piece d' o'] 0x45000000#32
      = ∑ r, kTerm 2048 (fun a : Fin 2 => row (![d, d'] a) r) (fun a => row (![o, o'] a) r) := by
  rw [xc_apply]
  refine Finset.sum_congr rfl fun r _ => ?_
  unfold xcRow scaled
  pointwise
  simp only [piece_m, piece_mo, piece_s, piece_so, piece_u, piece_v, c2048]
  unfold kTerm
  simp only [mx_two, Fin.sum_univ_two, Matrix.cons_val_zero, Matrix.cons_val_one]

theorem xc_three (d o d' o' d'' o'' : Vec Ideal S16x1024 .f32) :
    xc (F := Ideal) (piece d o) [piece d' o', piece d'' o''] 0x45400000#32
      = ∑ r, kTerm 3072 (fun a : Fin 3 => row (![d, d', d''] a) r) (fun a => row (![o, o', o''] a) r) := by
  rw [xc_apply]
  refine Finset.sum_congr rfl fun r _ => ?_
  unfold xcRow scaled
  pointwise
  simp only [piece_m, piece_mo, piece_s, piece_so, piece_u, piece_v, c3072]
  unfold kTerm
  simp only [mx_three, Fin.sum_univ_three, Matrix.cons_val_zero, Matrix.cons_val_one, Matrix.cons_val_two, Matrix.head_cons, Matrix.tail_cons]

theorem sqDiff_eq (a b : Vec Ideal S16x3072 .f32) :
    sqDiff (F := Ideal) a b = ∑ r, ∑ j, (row a r j - row b r j) * (row a r j - row b r j) := by
  unfold sqDiff
  pointwise
  rfl

/-! ## The lanes -/

theorem place_apply (vs : List EReal) (k n : ℕ) (hk : k < 128) (hn : n + vs.length ≤ 128) (z : EReal) :
    (vs.zipIdx n).foldl (fun out vk => Scalar.select (IntOp.cmpi .eq (BitVec.ofNat 32 k) (BitVec.ofNat 32 vk.2)) vk.1 out) z
      = if n ≤ k then (vs[k - n]?).getD z else z := by
  induction vs generalizing n z with
  | nil => simp
  | cons a L ih =>
    rw [List.length_cons] at hn
    rw [List.zipIdx_cons, List.foldl_cons, ih (n + 1) (by omega)]
    rcases lt_trichotomy k n with h | h | h
    · rw [if_neg (by omega), if_neg (by omega)]
      have hne : BitVec.ofNat 32 k ≠ BitVec.ofNat 32 n := fun e => by
        have := congrArg BitVec.toNat e
        simp only [BitVec.toNat_ofNat] at this
        omega
      rw [IntOp.cmpi, beq_eq_false_iff_ne.mpr hne]; rfl
    · subst h
      rw [if_neg (by omega), if_pos le_rfl, Nat.sub_self]
      rw [IntOp.cmpi, beq_self_eq_true]; rfl
    · rw [if_pos (by omega), if_pos (by omega)]
      have hne : BitVec.ofNat 32 k ≠ BitVec.ofNat 32 n := fun e => by
        have := congrArg BitVec.toNat e
        simp only [BitVec.toNat_ofNat] at this
        omega
      rw [IntOp.cmpi, beq_eq_false_iff_ne.mpr hne, show k - n = (k - (n + 1)) + 1 by omega, List.getElem?_cons_succ]; rfl

/-- Lane `k` holds the `k`-th value. -/
theorem inLanes_apply (vs : List EReal) (hn : vs.length ≤ 128) (k : Fin 128) :
    inLanes (F := Ideal) vs (ix3 0 0 k) = (vs[k.val]?).getD 0 := by
  unfold inLanes
  pointwise
  suffices h : ∀ (L : List (EReal × ℕ)) (z : FVec Ideal S1x128 .f32),
      (L.foldl (fun out vk => select (cmpi .eq (iota .tc S1x128 32 [1] iota_S1x128_d1_w32) (broadcast S1x128 (BitVec.ofNat 32 vk.2)))
        (broadcast S1x128 vk.1) out) z) (ix2 0 k)
      = L.foldl (fun out vk => Scalar.select (IntOp.cmpi .eq (BitVec.ofNat 32 k.val) (BitVec.ofNat 32 vk.2)) vk.1 out) (z (ix2 0 k)) by
    refine (h _ _).trans ?_
    rw [place_apply vs k.val 0 k.isLt (by omega), if_pos (Nat.zero_le _), Nat.sub_zero]
    congr 1
  intro L
  induction L with
  | nil => intro z; rfl
  | cons a L ih =>
    intro z
    rw [List.foldl_cons, List.foldl_cons, ih]
    congr 1
    pointwise

end Cert.Sae
-- ==== Proof.Host.lean ====
/- What the operations around the two calls compute: the lowest bins, and the result from the fifteen totals. -/
module

public import proofs.«01_k».proof.Proof.Main
public import proofs.«01_k».proof.Proof.Lanes
public import Idealize.ShloMosaic.Lib.StableHlo.RunRead

@[expose] public section

set_option maxRecDepth 16384

noncomputable section

namespace Cert.Sae

open Idealize.ShloMosaic Idealize.ShloMosaic.TcCoe Idealize.ShloMosaic.Tactic Cert.KernelIdeal Cert.KernelIdeal.Gen
open Idealize.SL Idealize.SL.Sem

/-! ## The result from the totals -/

/-- The mean entropy of the bins, from the total of the logarithms of the counts. -/
def entropy (s : EReal) : EReal :=
  Ideal.log (Ideal.ofBits .f32 0x44800000#32) - Ideal.div s (Ideal.ofBits .f32 0x45800000#32 * Ideal.ofBits .f32 0x44800000#32)

/-- The mean over the rows. -/
def rowMean (x : EReal) : EReal := Ideal.div x (Ideal.ofBits .f32 0x45800000#32)

def twice (x : EReal) : EReal := x * x

/-- The result from half the mean squared difference and the seven terms that are squared. -/
def combine (mse h1 h2 h3 m13 m23 m12 c : EReal) : EReal :=
  Ideal.ofBits .f32 0x3F666666#32 * mse
    + Ideal.ofBits .f32 0x3DCCCCCD#32 * (twice h1 + twice h2 + twice h3 + twice m13 + twice m23 + twice m12 + twice c)

/-- The result from the fifteen totals. -/
def finish (s : Fin 128 → EReal) : EReal :=
  combine (Ideal.div (Ideal.ofBits .f32 0x3F000000#32 * s 0) (Ideal.ofBits .f32 0x45800000#32 * Ideal.ofBits .f32 0x40400000#32 * Ideal.ofBits .f32 0x44800000#32))
    (entropy (s 1) - rowMean (s 8)) (entropy (s 2) - rowMean (s 9)) (entropy (s 3) - rowMean (s 10))
    (rowMean (s 8) + rowMean (s 10) - rowMean (s 11) - (entropy (s 1) + entropy (s 3) - entropy (s 5)))
    (rowMean (s 9) + rowMean (s 10) - rowMean (s 12) - (entropy (s 2) + entropy (s 3) - entropy (s 6)))
    (rowMean (s 8) + rowMean (s 9) - rowMean (s 13) - (entropy (s 1) + entropy (s 2) - entropy (s 4)))
    (rowMean (s 12) - rowMean (s 10) + rowMean (s 11) - rowMean (s 14)
      - Ideal.div (s 3 + s 7 - s 5 - s 6) (Ideal.ofBits .f32 0x44800000#32))

theorem host2 (W : Valuation τ sig (Elt Ideal)) (x : Vec Ideal S256x1x128 .f32) (hx : W (Proc.devRef .tc main_v5) = x) :
    (show Vec Ideal S_ .f32 from StableHlo.after hostOps2 W (Proc.devRef .tc main_v109)) = fun _ => finish fun k => ∑ t, x (ix3 t 0 k) := by
  after_reads_simp
  rw [hx]
  funext i
  pointwise
  rfl

/-! ## The lowest bins -/

/-- The least entry of an array. -/
def least {n w : ℕ} (x : (⟨2, ![n, w]⟩ : Shape).Idx → EReal) : EReal :=
  Finset.fold min (Ideal.ofBits .f32 0x7F800000#32) (fun k : Fin n × Fin w => x (ix2 k.1 k.2)) Finset.univ

/-- Where the bins start. -/
def lowest (x : (⟨2, ![4096, 1024]⟩ : Shape).Idx → EReal) : EReal := Ideal.liftRound Int.floor (least x)

theorem cTop : Ideal.ofBits .f32 0x7F800000#32 = ⊤ := by
  simp [Ideal.ofBits, Ideal.ieee]

theorem least_eq {n w : ℕ} (x : (⟨2, ![n, w]⟩ : Shape).Idx → EReal) : least x = Finset.univ.inf fun k : Fin n × Fin w => x (ix2 k.1 k.2) := by
  rw [least, cTop]; rfl

theorem host1 (W : Valuation τ sig (Elt Ideal)) (x : Vec Ideal S8x1x128 .f32) (hx : W (Proc.devRef .tc main_v0) = x) (k : Fin 3) :
    (show Vec Ideal S3 .f32 from StableHlo.after hostOps1 W (Proc.devRef .tc main_v4)) (ix1 k)
      = Ideal.liftRound Int.floor (Finset.univ.inf fun t => x (ix3 t 0 ⟨k.val, by omega⟩)) := by
  after_reads_simp
  rw [hx]
  pointwise
  rw [cTop]
  rfl

theorem pay (x y z : Vec Ideal S512x1024 .f32) (k : Fin 3) :
    k0_pay1 x y z (ix3 0 0 ⟨k.val, by omega⟩) = least (![x, y, z] k) := by
  unfold k0_pay1
  pointwise
  fin_cases k <;> rfl

/-- The least of the blocks' least entries is the array's. -/
theorem least_blocks (x : (⟨2, ![4096, 1024]⟩ : Shape).Idx → EReal) :
    (Finset.univ.inf fun t : Fin 8 => least (blk 512 x 8 (by norm_num) t)) = least x := by
  simp only [least_eq]
  apply le_antisymm
  · refine Finset.le_inf fun k _ => ?_
    have h : blk 512 x 8 (by norm_num) ⟨k.1.val / 512, by omega⟩ (ix2 ⟨k.1.val % 512, by omega⟩ k.2) = x (ix2 k.1 k.2) := by
      change x (ix2 ⟨k.1.val / 512 * 512 + k.1.val % 512, _⟩ k.2) = _
      exact congrArg (fun a => x (ix2 a k.2)) (Fin.ext (Nat.div_add_mod' _ _))
    refine (Finset.inf_le (Finset.mem_univ (⟨k.1.val / 512, by omega⟩ : Fin 8))).trans ?_
    refine (Finset.inf_le (Finset.mem_univ ((⟨k.1.val % 512, by omega⟩, k.2) : Fin 512 × Fin 1024))).trans ?_
    exact h.le
  · refine Finset.le_inf fun t _ => Finset.le_inf fun k _ => ?_
    exact Finset.inf_le (f := fun k : Fin 4096 × Fin 1024 => x (ix2 k.1 k.2)) (Finset.mem_univ (⟨t.val * 512 + k.1.val, by omega⟩, k.2))

theorem lows (x y z : Vec Ideal S4096x1024 .f32) (k : Fin 3) :
    Ideal.liftRound Int.floor (Finset.univ.inf fun t => minsArr (F := Ideal) x y z (ix3 t 0 ⟨k.val, by omega⟩)) = lowest (![x, y, z] k) := by
  have h : ∀ t : Fin 8, minsArr (F := Ideal) x y z (ix3 t 0 ⟨k.val, by omega⟩) = least (blk 512 (![x, y, z] k) 8 (by norm_num) t) := fun t =>
    (pay _ _ _ k).trans (by fin_cases k <;> rfl)
  simp only [h, least_blocks]
  rfl

end Cert.Sae
-- ==== Proof.Totals.lean ====
/- The fifteen totals over all rows. -/
module

public import proofs.«01_k».proof.Proof.Host

@[expose] public section

set_option maxRecDepth 16384

noncomputable section

namespace Cert.Sae

open Idealize.ShloMosaic Idealize.ShloMosaic.TcCoe Idealize.ShloMosaic.Tactic Cert.KernelIdeal Cert.KernelIdeal.Gen
open Idealize.SL Idealize.SL.Sem

/-- The blocks' rows, one after the other, are all rows. -/
theorem sum_blocks {M : Type} [AddCommMonoid M] (g : Fin 4096 → M) :
    ∑ t : Fin 256, ∑ r : Fin 16, g ⟨t.val * 16 + r.val, blk_lt (by norm_num) t r⟩ = ∑ R, g R := by
  rw [← Fintype.sum_prod_type' fun (t : Fin 256) (r : Fin 16) => g ⟨t.val * 16 + r.val, blk_lt (by norm_num) t r⟩]
  refine Fintype.sum_equiv (finProdFinEquiv (m := 256) (n := 16)) _ _ fun p => congrArg g (Fin.ext ?_)
  simp only [finProdFinEquiv_apply_val]
  omega

/-- The code of the entry in row `R` at position `j`. -/
def code (x : (⟨2, ![4096, 1024]⟩ : Shape).Idx → EReal) (R : Fin 4096) (j : Fin 1024) : BitVec 32 := codeW (lowest x) (x (ix2 R j))

section totals
variable (d1 d2 d3 o1 o2 o3 : (⟨2, ![4096, 1024]⟩ : Shape).Idx → EReal) (da ou : (⟨2, ![4096, 3072]⟩ : Shape).Idx → EReal)

/-- The total of the logarithms of the counts of one code. -/
def logsOne : ℝ := ∑ R, logs (code d1 R)

/-- The total of the logarithms of the counts of pairs of codes. -/
def logsTwo : ℝ := ∑ R, logs fun j => (code d1 R j, code d2 R j)

/-- The total of the logarithms of the counts of codes joined from three. -/
def logsThree : ℝ := ∑ R, logs fun j => (code d1 R j * 128#32 + code d2 R j) * 128#32 + code d3 R j

/-- The total of the squared differences. -/
def squares : EReal := ∑ R, ∑ j, (row da R j - row ou R j) * (row da R j - row ou R j)

/-- The total of the rows' terms, of one input. -/
def termsOne : EReal := ∑ R, kTerm 1024 (fun a : Fin 1 => row (![d1] a) R) (fun a => row (![o1] a) R)

def termsTwo : EReal := ∑ R, kTerm 2048 (fun a : Fin 2 => row (![d1, d2] a) R) (fun a => row (![o1, o2] a) R)

def termsThree : EReal := ∑ R, kTerm 3072 (fun a : Fin 3 => row (![d1, d2, d3] a) R) (fun a => row (![o1, o2, o3] a) R)

/-- All fifteen. -/
def totals : List EReal :=
  [squares da ou, logsOne d1, logsOne d2, logsOne d3, logsTwo d2 d1, logsTwo d1 d3, logsTwo d3 d2, logsThree d1 d2 d3,
    termsOne d1 o1, termsOne d2 o2, termsOne d3 o3, termsTwo d1 d3 o1 o3, termsTwo d2 d3 o2 o3, termsTwo d1 d2 o1 o2,
    termsThree d1 d2 d3 o1 o2 o3]

end totals

section block
variable (x y z u v w : (⟨2, ![4096, 1024]⟩ : Shape).Idx → EReal)

/-- Block `t` of an array of inputs. -/
abbrev bl {M : ℕ} (x : (⟨2, ![4096, M]⟩ : Shape).Idx → EReal) (t : Fin 256) : (⟨2, ![16, M]⟩ : Shape).Idx → EReal := blk 16 x 256 (by norm_num) t

theorem row_block {M : ℕ} (x : (⟨2, ![4096, M]⟩ : Shape).Idx → EReal) (t : Fin 256) (r : Fin 16) :
    row (bl x t) r = row x ⟨t.val * 16 + r.val, blk_lt (by norm_num) t r⟩ := rfl

theorem codes_block (t : Fin 256) (r : Fin 16) (j : Fin 1024) :
    codes (F := Ideal) (bl x t) (lowest x) (ix2 r j) = code x ⟨t.val * 16 + r.val, blk_lt (by norm_num) t r⟩ j := codes_apply _ _ r j

theorem codes_lt (t : Fin 256) (i : S16x1024.Idx) : (codes (F := Ideal) (bl x t) (lowest x) i).toNat < 128 := by
  obtain ⟨r, j, rfl⟩ : ∃ (r : Fin 16) (j : Fin 1024), i = ix2 r j := ⟨i 0, i 1, by funext k; fin_cases k <;> rfl⟩
  rw [codes_block]
  exact codeW_lt _ _

theorem one_total : ∑ t, laneSum (accOne (F := Ideal) (codes (F := Ideal) (bl y t) (lowest y)) (codes (F := Ideal) (bl x t) (lowest x))) = logsOne x := by
  simp only [accOne_eq _ _ (codes_lt y _) (codes_lt x _)]
  rw [← coe_sum, logsOne, ← sum_blocks]
  refine congrArg _ (Finset.sum_congr rfl fun t _ => Finset.sum_congr rfl fun r _ => congrArg logs ?_)
  exact funext fun j => codes_block x t r j

theorem two_total : ∑ t, laneSum (accJoint (F := Ideal) (codes (F := Ideal) (bl x t) (lowest x)) (codes (F := Ideal) (bl y t) (lowest y))) = logsTwo x y := by
  simp only [accJoint_eq _ _ (codes_lt x _) (codes_lt y _)]
  rw [← coe_sum, logsTwo, ← sum_blocks]
  refine congrArg _ (Finset.sum_congr rfl fun t _ => Finset.sum_congr rfl fun r _ => congrArg logs ?_)
  exact funext fun j => congrArg₂ Prod.mk (codes_block x t r j) (codes_block y t r j)

theorem three_total : ∑ t, runLogs (F := Ideal) (sortRows (joint3 (codes (F := Ideal) (bl x t) (lowest x)) (codes (F := Ideal) (bl y t) (lowest y)) (codes (F := Ideal) (bl z t) (lowest z))))
    = logsThree x y z := by
  simp only [runLogs_eq]
  rw [← coe_sum, logsThree, ← sum_blocks]
  refine congrArg _ (Finset.sum_congr rfl fun t _ => Finset.sum_congr rfl fun r _ => congrArg logs (funext fun j => ?_))
  change (codes (F := Ideal) (bl x t) (lowest x) (ix2 r j) * 128#32 + codes (F := Ideal) (bl y t) (lowest y) (ix2 r j)) * 128#32 + codes (F := Ideal) (bl z t) (lowest z) (ix2 r j) = _
  rw [codes_block, codes_block, codes_block]

theorem squares_total (a b : (⟨2, ![4096, 3072]⟩ : Shape).Idx → EReal) : ∑ t, sqDiff (F := Ideal) (bl a t) (bl b t) = squares a b := by
  rw [squares, ← sum_blocks]
  refine Finset.sum_congr rfl fun t _ => ?_
  rw [sqDiff_eq]
  simp only [row_block]

theorem termsOne_total : ∑ t, xc (F := Ideal) (piece (bl x t) (bl u t)) [] 0x44800000#32 = termsOne x u := by
  rw [termsOne, ← sum_blocks]
  refine Finset.sum_congr rfl fun t _ => ?_
  rw [xc_one]
  refine Finset.sum_congr rfl fun r _ => congrArg₂ (kTerm 1024) (funext fun a => ?_) (funext fun a => ?_)
  all_goals fin_cases a; exact row_block _ _ _

theorem termsTwo_total : ∑ t, xc (F := Ideal) (piece (bl x t) (bl u t)) [piece (bl y t) (bl v t)] 0x45000000#32 = termsTwo x y u v := by
  rw [termsTwo, ← sum_blocks]
  refine Finset.sum_congr rfl fun t _ => ?_
  rw [xc_two]
  refine Finset.sum_congr rfl fun r _ => congrArg₂ (kTerm 2048) (funext fun a => ?_) (funext fun a => ?_)
  all_goals fin_cases a <;> exact row_block _ _ _

theorem termsThree_total : ∑ t, xc (F := Ideal) (piece (bl x t) (bl u t)) [piece (bl y t) (bl v t), piece (bl z t) (bl w t)] 0x45400000#32
    = termsThree x y z u v w := by
  rw [termsThree, ← sum_blocks]
  refine Finset.sum_congr rfl fun t _ => ?_
  rw [xc_three]
  refine Finset.sum_congr rfl fun r _ => congrArg₂ (kTerm 3072) (funext fun a => ?_) (funext fun a => ?_)
  all_goals fin_cases a <;> exact row_block _ _ _

end block

/-! ## All lanes -/

theorem sum_nil (k : ℕ) : ∑ _t : Fin 256, (([] : List EReal)[k]?).getD 0 = (([] : List EReal)[k]?).getD 0 := Finset.sum_const_zero

theorem sum_cons {f : Fin 256 → EReal} {a : EReal} {L : Fin 256 → List EReal} {T : List EReal} (h0 : ∑ t, f t = a)
    (h : ∀ k : ℕ, ∑ t, ((L t)[k]?).getD 0 = (T[k]?).getD 0) (k : ℕ) : ∑ t, ((f t :: L t)[k]?).getD 0 = ((a :: T)[k]?).getD 0 := by
  cases k with
  | zero => exact h0
  | succ k => exact h k

theorem vals_total (d1 d2 d3 o1 o2 o3 : (⟨2, ![4096, 1024]⟩ : Shape).Idx → EReal) (da ou : (⟨2, ![4096, 3072]⟩ : Shape).Idx → EReal) (k : ℕ) :
    ∑ t, ((vals (F := Ideal) (bl d1 t) (bl d2 t) (bl d3 t) (bl o1 t) (bl o2 t) (bl o3 t) (bl da t) (bl ou t) (lowest d1) (lowest d2) (lowest d3))[k]?).getD 0
      = ((totals d1 d2 d3 o1 o2 o3 da ou)[k]?).getD 0 := by
  unfold vals totals
  exact sum_cons (squares_total da ou) (sum_cons (one_total d1 d2) (sum_cons (one_total d2 d3) (sum_cons (one_total d3 d1)
    (sum_cons (two_total d2 d1) (sum_cons (two_total d1 d3) (sum_cons (two_total d3 d2) (sum_cons (three_total d1 d2 d3)
    (sum_cons (termsOne_total d1 o1) (sum_cons (termsOne_total d2 o2) (sum_cons (termsOne_total d3 o3)
    (sum_cons (termsTwo_total d1 d3 o1 o3) (sum_cons (termsTwo_total d2 d3 o2 o3) (sum_cons (termsTwo_total d1 d2 o1 o2)
    (sum_cons (termsThree_total d1 d2 d3 o1 o2 o3) sum_nil)))))))))))))) k

theorem lane_at (d1 d2 d3 o1 o2 o3 : Vec Ideal S4096x1024 .f32) (da ou : Vec Ideal S4096x3072 .f32) (lo : Vec Ideal S3 .f32) (t : Fin 256) (k : Fin 128) :
    lanesArr (F := Ideal) d1 d2 d3 o1 o2 o3 da ou lo (ix3 t 0 k)
      = ((vals (F := Ideal) (bl d1 t) (bl d2 t) (bl d3 t) (bl o1 t) (bl o2 t) (bl o3 t) (bl da t) (bl ou t) (lo (ix1 0)) (lo (ix1 1)) (lo (ix1 2)))[k.val]?).getD 0 := by
  rw [← inLanes_apply _ (by simp only [vals, List.length_cons, List.length_nil]; norm_num)]
  unfold lanesArr
  rfl

/-- Lane `k` summed over all blocks. -/
theorem lane_total (d1 d2 d3 o1 o2 o3 : Vec Ideal S4096x1024 .f32) (da ou : Vec Ideal S4096x3072 .f32) (lo : Vec Ideal S3 .f32)
    (hlo : ∀ k : Fin 3, lo (ix1 k) = lowest (![d1, d2, d3] k)) (k : Fin 128) :
    ∑ t, lanesArr (F := Ideal) d1 d2 d3 o1 o2 o3 da ou lo (ix3 t 0 k) = ((totals d1 d2 d3 o1 o2 o3 da ou)[k.val]?).getD 0 := by
  have e0 : lo (ix1 0) = lowest d1 := hlo 0
  have e1 : lo (ix1 1) = lowest d2 := hlo 1
  have e2 : lo (ix1 2) = lowest d3 := hlo 2
  rw [← vals_total, ← e0, ← e1, ← e2]
  exact Finset.sum_congr rfl fun t _ => lane_at d1 d2 d3 o1 o2 o3 da ou lo t k

end Cert.Sae
-- ==== Proof.Read.lean ====
/- What each named step of the reference holds, entry by entry. -/
module

public import proofs.«01_k».proof.Proof.Terms
public import proofs.«01_k».proof.Proof.Totals
public import Idealize.ShloMosaic.Lib.IndicatorCount
public import Idealize.ShloMosaic.Lib.SortFacts
public import Idealize.ShloMosaic.Lib.IndicatorCount

@[expose] public section

set_option maxRecDepth 16384

noncomputable section

namespace Cert.Sae.Ref

open Idealize.ShloMosaic Idealize.ShloMosaic.TcCoe Idealize.ShloMosaic.Tactic Cert.ReferenceIdeal Cert.ReferenceIdeal.Gen
open Idealize.SL Idealize.SL.Sem

section width
variable {w : ℕ} (hb : S4096x1.BroadcastsInDim (Sw w) (![0, 1] : Fin 2 → Fin (Sw w).rank)) (hr : (Sw w).ReducesTo [1] S4096)

theorem shift_apply (x : Vec Ideal (Sw w) .f32) (r : Fin 4096) (j : Fin w) :
    shift (F := Ideal) hb hr x (ix2 r j) = x (ix2 r j) - mx (row x r) := by
  unfold shift spread lit
  pointwise
  rw [cBot, max_eq_right bot_le]
  rfl

theorem softV_apply (x : Vec Ideal (Sw w) .f32) (r : Fin 4096) (j : Fin w) :
    softV (F := Ideal) hb hr x (ix2 r j) = soft (row x r) j := by
  unfold softV spread lit
  pointwise
  simp only [shift_apply]
  rfl

theorem logSoftV_apply (x : Vec Ideal (Sw w) .f32) (r : Fin 4096) (j : Fin w) :
    logSoftV (F := Ideal) hb hr x (ix2 r j) = logSoft (row x r) j := by
  unfold logSoftV spread lit
  pointwise
  simp only [shift_apply]
  rfl

theorem totalV_apply {n w : ℕ} (h : (⟨2, ![n, w]⟩ : Shape).ReducesTo [0, 1] S_) (x : Vec Ideal ⟨2, ![n, w]⟩ .f32) (i : S_.Idx) :
    totalV (F := Ideal) h x i = ∑ r : Fin n, ∑ j : Fin w, x (ix2 r j) := by
  unfold totalV lit
  pointwise

theorem leastV_apply {n w : ℕ} (h : (⟨2, ![n, w]⟩ : Shape).ReducesTo [0, 1] S_) (x : Vec Ideal ⟨2, ![n, w]⟩ .f32) (i : S_.Idx) :
    leastV (F := Ideal) h x i = Finset.fold min (Ideal.ofBits FTy.f32 0x7F800000#32) (fun k : Fin n × Fin w => x (ix2 k.1 k.2)) Finset.univ := by
  unfold leastV lit
  pointwise

theorem hOut_apply (ha : (Sw w).ReducesTo [0, 1] S_) (n : BitVec 32) (d o : Vec Ideal (Sw w) .f32) (i : S_.Idx) :
    hOut (F := Ideal) hb hr ha n d o i
      = Ideal.div (∑ r, -ceTerm (row d r) (row o r)) (Ideal.ofBits FTy.f32 0x45800000#32) - Ideal.div (∑ r, klTerm (row d r) (row o r)) (Ideal.ofBits FTy.f32 n) := by
  unfold hOut lit
  pointwise
  rw [totalV_apply]
  refine congrArg₂ (· - ·) (congrArg (Ideal.div · _) (Finset.sum_congr rfl fun r _ => congrArg Neg.neg (Finset.sum_congr rfl fun j _ => ?_)))
    (congrArg (Ideal.div · _) (Finset.sum_congr rfl fun r _ => Finset.sum_congr rfl fun j _ => ?_))
  · rw [softV_apply, logSoftV_apply]
  · pointwise
    rw [softV_apply, logSoftV_apply]

end width

end Cert.Sae.Ref
-- ==== Proof.ReadCodes.lean ====
/- What the reference's codes, sorted rows and entropies hold. -/
module

public import proofs.«01_k».proof.Proof.Read

@[expose] public section

set_option maxRecDepth 16384

noncomputable section

namespace Cert.Sae.Ref

open Idealize.ShloMosaic Idealize.ShloMosaic.TcCoe Idealize.ShloMosaic.Tactic Cert.ReferenceIdeal Cert.ReferenceIdeal.Gen
open Idealize.SL Idealize.SL.Sem

theorem s127 : FloatOps.sitofp (F := Ideal) .f32 127#32 = ((127 : ℝ) : EReal) := by
  change (((127#32 : BitVec 32).toInt : ℝ) : EReal) = _
  rw [show (127#32 : BitVec 32).toInt = 127 by decide]
  norm_num

theorem s0 : FloatOps.sitofp (F := Ideal) .f32 0#32 = (0 : EReal) := by
  change (((0#32 : BitVec 32).toInt : ℝ) : EReal) = _
  rw [show (0#32 : BitVec 32).toInt = 0 by decide]
  norm_num

theorem join_apply (a b : IVec S4096x1024 32) (r : Fin 4096) (j : Fin 1024) : join a b (ix2 r j) = a (ix2 r j) * 128#32 + b (ix2 r j) := by
  unfold join
  pointwise
  rfl

theorem codesFrom_apply (lo : Vec Ideal S_ .f32) (z : EReal) (hz : ∀ i, lo i = z) (x : Vec Ideal S4096x1024 .f32) (r : Fin 4096) (j : Fin 1024) :
    codesFrom (F := Ideal) lo x (ix2 r j) = codeW (Ideal.liftRound Int.floor z) (x (ix2 r j)) := by
  unfold codesFrom lit
  pointwise
  rw [hz, s127, s0]
  rfl

theorem codesV_apply (x : Vec Ideal S4096x1024 .f32) (r : Fin 4096) (j : Fin 1024) : codesV (F := Ideal) x (ix2 r j) = code x r j :=
  codesFrom_apply _ (least x) (fun i => leastV_apply (n := 4096) (w := 1024) reducesTo_S4096x1024_S_d0_1 x i) x r j

theorem sort_row {n w : ℕ} (x : IVec ⟨2, ![n, w]⟩ 32) (cmp : BitVec 32 → BitVec 32 → BitVec 1) (r : Fin n) :
    ∃ σ : Equiv.Perm (Fin w), row (Host.sort ⟨2, ![n, w]⟩ 1 cmp x) r = fun j => row x r (σ j) := by
  refine ⟨Equiv.ofBijective (sortedFrom fun k k' => cmp (x (ix2 r k)) (x (ix2 r k')) == 1#1)
    ⟨sortedFrom_injective _, sortedFrom_surjective _⟩, funext fun j => ?_⟩
  have h1 : 1 < (⟨2, ![n, w]⟩ : Shape).rank := by norm_num
  have ha : ∀ k : Fin w, (ix2 r j).along (⟨1, h1⟩ : Fin (⟨2, ![n, w]⟩ : Shape).rank) k = ix2 r k := fun k => by
    funext a; fin_cases a <;> rfl
  change Host.sort ⟨2, ![n, w]⟩ 1 cmp x (ix2 r j) = _
  unfold Host.sort
  rw [dif_pos h1]
  refine congrArg x ((ha _).trans (congrArg (ix2 r) ?_))
  change sortedFrom (n := w) _ j = sortedFrom (n := w) _ j
  refine congrArg (fun f => sortedFrom (n := w) f j) (funext fun k => funext fun k' => ?_)
  rw [ha k, ha k']

/-- Sorting permutes each row. -/
theorem sortV_row (x : IVec S4096x1024 32) (r : Fin 4096) : ∃ σ : Equiv.Perm (Fin 1024), row (sortV x) r = fun j => row x r (σ j) :=
  sort_row x comparator_i32_d1 r

theorem ofBool_eq (p : Prop) [Decidable p] : BitVec.ofBool (decide p) = 1#1 ↔ p := by
  by_cases h : p <;> simp [h]

theorem count_word {n : ℕ} (hn : n ≤ 1024) (v : Fin n → BitVec 32) (j : Fin n) :
    (BitVec.ofNat 32 (Finset.univ.filter fun k => IntOp.cmpi .sle (v k) (v j) = 1#1).card
      - BitVec.ofNat 32 (Finset.univ.filter fun k => IntOp.cmpi .slt (v k) (v j) = 1#1).card).toInt = count v j := by
  have hle : ∀ k, IntOp.cmpi .sle (v k) (v j) = 1#1 ↔ (v k).toInt ≤ (v j).toInt := fun k => ofBool_eq _
  have hlt : ∀ k, IntOp.cmpi .slt (v k) (v j) = 1#1 ↔ (v k).toInt < (v j).toInt := fun k => ofBool_eq _
  simp only [hle, hlt]
  have h := card_sub (fun k => (v k).toInt) j
  have hc : count (fun k => (v k).toInt) j = count v j := by
    simp only [count, BitVec.toInt_inj]
  have hb : (Finset.univ.filter fun k => (v k).toInt ≤ (v j).toInt).card ≤ n := (Finset.card_le_univ _).trans (by rw [Fintype.card_fin])
  rw [← h, hc] at hb ⊢
  generalize (Finset.univ.filter fun k => (v k).toInt < (v j).toInt).card = a at hb ⊢
  generalize count v j = b at hb ⊢
  rw [BitVec.ofNat_add, add_comm, BitVec.add_sub_cancel, BitVec.toInt_ofNat']
  simp only [Int.bmod]
  omega

theorem below_apply (p : CmpIPredicate) (x : IVec S4096x1024 32) (r : Fin 4096) (j : Fin 1024) :
    below p x (ix2 r j) = BitVec.ofNat 32 (Finset.univ.filter fun k => IntOp.cmpi p (row x r k) (row x r j) = 1#1).card := by
  unfold below
  pointwise
  exact IndicatorCount.fold_addi_setWidth_eq_card (fun k => IntOp.cmpi p (row x r k) (row x r j)) Finset.univ

theorem c4096 : Ideal.ofBits .f32 0x45800000#32 = ((4096 : ℝ) : EReal) := by
  simp [Ideal.ofBits, Ideal.ieee]; rw [← EReal.coe_mul]; norm_num

theorem sumV_apply (v : Vec Ideal S4096 .f32) (i : S_.Idx) : sumV (F := Ideal) v i = ∑ r, v (ix1 r) := by
  unfold sumV lit
  pointwise

/-- A row's entropy. -/
theorem rowEnt_apply (x : IVec S4096x1024 32) (r : Fin 4096) :
    rowEnt (F := Ideal) x (ix1 r) = ((Real.log 1024 - logs (row x r) / 1024 : ℝ) : EReal) := by
  unfold rowEnt lit
  pointwise
  have h : ∀ j : Fin 1024, Ideal.log (FloatOps.sitofp (F := Ideal) .f32 (IntOp.subi (below .sle x (ix2 r j)) (below .slt x (ix2 r j))))
      = ((Real.log (count (row x r) j) : ℝ) : EReal) := fun j => by
    rw [below_apply, below_apply]
    change Ideal.log (((BitVec.ofNat 32 _ - BitVec.ofNat 32 _).toInt : ℝ) : EReal) = _
    rw [count_word le_rfl, Ideal.log_coe, if_neg]
    · rfl
    · rw [not_le]; exact_mod_cast count_pos _ _
  rw [Finset.sum_congr rfl fun j _ => h j, ← coe_sum, c1024, div_real _ (by norm_num), Ideal.log_coe, if_neg (by norm_num), ← EReal.coe_sub]
  rfl

/-- The mean entropy of rows whose logarithms of counts are known. -/
theorem meanEnt_apply (x : IVec S4096x1024 32) (s : Fin 4096 → ℝ) (hs : ∀ r, logs (row x r) = s r) (i : S_.Idx) :
    meanEnt (F := Ideal) x i = ((Real.log 1024 - (∑ r, s r) / (4096 * 1024) : ℝ) : EReal) := by
  have h : ∀ r, rowEnt (F := Ideal) (sortV x) (ix1 r) = ((Real.log 1024 - s r / 1024 : ℝ) : EReal) := fun r => by
    rw [rowEnt_apply]
    obtain ⟨σ, hσ⟩ := sortV_row x r
    rw [hσ, logs_perm (row x r) σ, hs]
  unfold meanEnt lit
  pointwise
  rw [sumV_apply, Finset.sum_congr rfl fun r _ => h r, ← coe_sum, c4096, div_real _ (by norm_num), Finset.sum_sub_distrib, ← Finset.sum_div]
  simp only [Finset.sum_const, Finset.card_univ, Fintype.card_fin]
  congr 1
  ring

end Cert.Sae.Ref
-- ==== Proof.Same.lean ====
/- Two values that are equal reals or both infinite have equal squares; and the two forms of the softmax terms' totals are such. -/
module

public import proofs.«01_k».proof.Proof.Soft

@[expose] public section

noncomputable section

namespace Cert.Sae

open Idealize.ShloMosaic

/-- The same real, or both infinite. -/
def Same (x y : EReal) : Prop := (∃ r : ℝ, x = r ∧ y = r) ∨ (Inf x ∧ Inf y)

theorem Same.coe (r : ℝ) : Same r r := .inl ⟨r, rfl, rfl⟩

theorem Same.add {x y u v : EReal} (h : Same x y) (k : Same u v) : Same (x + u) (y + v) := by
  rcases h with ⟨r, rfl, rfl⟩ | ⟨h, h'⟩
  · rcases k with ⟨s, rfl, rfl⟩ | ⟨k, k'⟩
    · exact .inl ⟨r + s, (EReal.coe_add _ _).symm, (EReal.coe_add _ _).symm⟩
    · exact .inr ⟨k.add_right _, k'.add_right _⟩
  · exact .inr ⟨h.add _, h'.add _⟩

theorem Same.sub {x y u v : EReal} (h : Same x y) (k : Same u v) : Same (x - u) (y - v) := by
  rcases h with ⟨r, rfl, rfl⟩ | ⟨h, h'⟩
  · rcases k with ⟨s, rfl, rfl⟩ | ⟨k, k'⟩
    · exact .inl ⟨r - s, (EReal.coe_sub _ _).symm, (EReal.coe_sub _ _).symm⟩
    · exact .inr ⟨k.sub_right _, k'.sub_right _⟩
  · exact .inr ⟨h.sub _, h'.sub _⟩

theorem Inf.square {x : EReal} (h : Inf x) : x * x = ⊤ := by
  rcases h with rfl | rfl
  · exact EReal.bot_mul_bot
  · exact EReal.top_mul_top

theorem Same.square {x y : EReal} (h : Same x y) : x * x = y * y := by
  rcases h with ⟨r, rfl, rfl⟩ | ⟨h, h'⟩
  · rfl
  · rw [h.square, h'.square]

/-- The mean of the rows' terms, against the mean cross entropy less the mean divergence. -/
theorem same_total {κ ι : Type} [Fintype κ] [Fintype ι] [Nonempty κ] [Nonempty ι] {N : ℕ} {n B : ℝ} (hn : 0 < n) (hB : 0 < B)
    (d o : Fin N → κ → ι → EReal) :
    Same (Ideal.div (∑ R, kTerm n (d R) (o R)) B)
      (Ideal.div (∑ R, -ceTerm (fun p : κ × ι => d R p.1 p.2) (fun p => o R p.1 p.2)) B
        - Ideal.div (∑ R, klTerm (fun p : κ × ι => d R p.1 p.2) fun p => o R p.1 p.2) ((B * n : ℝ) : EReal)) := by
  by_cases h : ∀ R, ∃ x y : ℝ, ceTerm (fun p : κ × ι => d R p.1 p.2) (fun p => o R p.1 p.2) = x ∧
      klTerm (fun p : κ × ι => d R p.1 p.2) (fun p => o R p.1 p.2) = y ∧ kTerm n (d R) (o R) = ((-x - y / n : ℝ) : EReal)
  · choose x y h1 h2 h3 using h
    refine .inl ⟨(∑ R, (-x R - y R / n)) / B, ?_, ?_⟩
    · rw [Finset.sum_congr rfl fun R _ => h3 R, ← coe_sum, div_real _ hB.ne']
    · rw [Finset.sum_congr rfl fun R _ => h2 R, Finset.sum_congr rfl fun R _ => (congrArg Neg.neg (h1 R)).trans (EReal.coe_neg _).symm,
        ← coe_sum, ← coe_sum, div_real _ hB.ne', div_real _ (mul_pos hB hn).ne', ← EReal.coe_sub, EReal.coe_eq_coe_iff,
        Finset.sum_sub_distrib, ← Finset.sum_div]
      have := hB.ne'
      have := hn.ne'
      field_simp
  · push Not at h
    obtain ⟨R, h⟩ := h
    rcases row_term n (d R) (o R) hn.ne' with ⟨x, y, h1, h2, h3⟩ | ⟨hk, hc⟩
    · exact absurd h3 (h x y h1 h2)
    · refine .inr ⟨(Inf.sum (f := fun R => kTerm n (d R) (o R)) hk).div hB, ?_⟩
      rcases hc with hc | hc
      · exact ((Inf.sum (f := fun R => -ceTerm (fun p : κ × ι => d R p.1 p.2) fun p => o R p.1 p.2) hc.neg).div hB).sub _
      · exact ((Inf.sum (f := fun R => klTerm (fun p : κ × ι => d R p.1 p.2) fun p => o R p.1 p.2) hc).div (mul_pos hB hn)).sub_right _

end Cert.Sae
-- ==== Proof.ReadRows.lean ====
/- The joined rows of the reference, and its softmax terms against the kernel's totals. -/
module

public import proofs.«01_k».proof.Proof.ReadCodes
public import proofs.«01_k».proof.Proof.Same

@[expose] public section

set_option maxRecDepth 16384

noncomputable section

namespace Cert.Sae.Ref

open Idealize.ShloMosaic Idealize.ShloMosaic.TcCoe Idealize.ShloMosaic.Tactic Cert.ReferenceIdeal Cert.ReferenceIdeal.Gen
open Idealize.SL Idealize.SL.Sem

theorem cat2_if (x y : Vec Ideal S4096x1024 .f32) (r : Fin 4096) (j : Fin 2048) :
    cat2 (F := Ideal) x y (ix2 r j) = if h : j.val < 1024 then x (ix2 r ⟨j.val, h⟩) else y (ix2 r ⟨j.val - 1024, by omega⟩) := by
  unfold cat2
  pointwise

theorem cat3_if (x y z : Vec Ideal S4096x1024 .f32) (r : Fin 4096) (j : Fin 3072) :
    cat3 (F := Ideal) x y z (ix2 r j) = if h : j.val < 1024 then x (ix2 r ⟨j.val, h⟩)
      else if h' : j.val - 1024 < 1024 then y (ix2 r ⟨j.val - 1024, h'⟩) else z (ix2 r ⟨j.val - 1024 - 1024, by omega⟩) := by
  unfold cat3
  pointwise

/-- Position `j` of part `a` in a joined row of `k` parts. -/
def place {k w : ℕ} (h : k * 1024 = w) : Fin k × Fin 1024 ≃ Fin w := finProdFinEquiv.trans (finCongr h)

theorem place_val {k w : ℕ} (h : k * 1024 = w) (p : Fin k × Fin 1024) : (place h p).val = p.2.val + 1024 * p.1.val := by
  simp [place]

theorem cat2_row (x y : Vec Ideal S4096x1024 .f32) (r : Fin 4096) (p : Fin 2 × Fin 1024) :
    row (cat2 (F := Ideal) x y) r (place (by norm_num) p) = row (![x, y] p.1) r p.2 := by
  refine (cat2_if x y r _).trans ?_
  simp only [place_val]
  rcases p with ⟨a, j⟩
  match a with
  | 0 => rw [dif_pos (by simp)]; exact congrArg (fun k => x (ix2 r k)) (Fin.ext (by simp))
  | 1 => rw [dif_neg (by simp)]; exact congrArg (fun k => y (ix2 r k)) (Fin.ext (by simp))

theorem cat3_row (x y z : Vec Ideal S4096x1024 .f32) (r : Fin 4096) (p : Fin 3 × Fin 1024) :
    row (cat3 (F := Ideal) x y z) r (place (by norm_num) p) = row (![x, y, z] p.1) r p.2 := by
  refine (cat3_if x y z r _).trans ?_
  simp only [place_val]
  rcases p with ⟨a, j⟩
  match a with
  | 0 => rw [dif_pos (by simp)]; exact congrArg (fun k => x (ix2 r k)) (Fin.ext (by simp))
  | 1 => rw [dif_neg (by simp), dif_pos (by simp)]; exact congrArg (fun k => y (ix2 r k)) (Fin.ext (by simp))
  | 2 =>
    have h : (2 : Fin 3).val = 2 := rfl
    rw [dif_neg (by rw [h]; omega), dif_neg (by rw [h]; omega)]
    refine congrArg (fun k => z (ix2 r k)) (Fin.ext ?_)
    change j.val + 1024 * (2 : Fin 3).val - 1024 - 1024 = j.val
    rw [h]; omega

theorem n1 : Ideal.ofBits .f32 0x4A800000#32 = ((4096 * 1024 : ℝ) : EReal) := by
  have h : Ideal.ofBits .f32 0x4A800000#32 = ((4194304 : ℝ) : EReal) := by
    simp [Ideal.ofBits, Ideal.ieee]; rw [← EReal.coe_mul]; norm_num
  rw [h]; norm_num

theorem n2 : Ideal.ofBits .f32 0x4B000000#32 = ((4096 * 2048 : ℝ) : EReal) := by
  simp [Ideal.ofBits, Ideal.ieee]; rw [← EReal.coe_mul]; norm_num

theorem n3 : Ideal.ofBits .f32 0x4B400000#32 = ((4096 * 3072 : ℝ) : EReal) := by
  simp [Ideal.ofBits, Ideal.ieee]; rw [← EReal.coe_mul]; norm_num

/-- The reference's term of joined rows beside the mean of the kernel's terms. -/
theorem same_hOut {k w : ℕ} [NeZero k] (hw : k * 1024 = w) (hb : S4096x1.BroadcastsInDim (Sw w) (![0, 1] : Fin 2 → Fin (Sw w).rank))
    (hr : (Sw w).ReducesTo [1] S4096) (ha : (Sw w).ReducesTo [0, 1] S_) (n : BitVec 32) (u : ℝ) (hu : 0 < u)
    (hn : Ideal.ofBits .f32 n = ((4096 * u : ℝ) : EReal)) (d o : Vec Ideal (Sw w) .f32) (D O : Fin 4096 → Fin k → Fin 1024 → EReal)
    (hd : ∀ r p, row d r (place hw p) = D r p.1 p.2) (ho : ∀ r p, row o r (place hw p) = O r p.1 p.2) (i : S_.Idx) :
    Same (rowMean (∑ R, kTerm u (D R) (O R))) (hOut (F := Ideal) hb hr ha n d o i) := by
  rw [hOut_apply, rowMean, c4096, hn]
  have e1 : ∀ r, (fun p : Fin k × Fin 1024 => D r p.1 p.2) = fun p => row d r (place hw p) := fun r => funext fun p => (hd r p).symm
  have e2 : ∀ r, (fun p : Fin k × Fin 1024 => O r p.1 p.2) = fun p => row o r (place hw p) := fun r => funext fun p => (ho r p).symm
  have h := same_total hu (by norm_num : (0 : ℝ) < 4096) D O
  simp only [e1, e2, ceTerm_equiv, klTerm_equiv] at h
  exact h

section terms
variable (d1 d2 d3 o1 o2 o3 : Vec Ideal S4096x1024 .f32)

theorem same1 (i : S_.Idx) : Same (rowMean (termsOne d1 o1)) (hOut1 (F := Ideal) d1 o1 i) :=
  same_hOut (k := 1) (w := 1024) (by norm_num) _ _ _ _ 1024 (by norm_num) n1 d1 o1 _ _
    (fun r p => by
      rcases p with ⟨a, j⟩
      match a with
      | 0 => exact congrArg (fun k => d1 (ix2 r k)) (Fin.ext (by rw [place_val]; simp)))
    (fun r p => by
      rcases p with ⟨a, j⟩
      match a with
      | 0 => exact congrArg (fun k => o1 (ix2 r k)) (Fin.ext (by rw [place_val]; simp))) i

theorem same2 (i : S_.Idx) : Same (rowMean (termsTwo d1 d2 o1 o2)) (hOut2 (F := Ideal) (cat2 d1 d2) (cat2 o1 o2) i) :=
  same_hOut (k := 2) (w := 2048) (by norm_num) _ _ _ _ 2048 (by norm_num) n2 _ _ _ _ (fun r p => cat2_row d1 d2 r p) (fun r p => cat2_row o1 o2 r p) i

theorem same3 (i : S_.Idx) : Same (rowMean (termsThree d1 d2 d3 o1 o2 o3)) (hOut3 (F := Ideal) (cat3 d1 d2 d3) (cat3 o1 o2 o3) i) :=
  same_hOut (k := 3) (w := 3072) (by norm_num) _ _ _ _ 3072 (by norm_num) n3 _ _ _ _ (fun r p => cat3_row d1 d2 d3 r p) (fun r p => cat3_row o1 o2 o3 r p) i

end terms

end Cert.Sae.Ref
-- ==== Proof.KernelRun.lean ====
/- The kernel's run: the result from the fifteen totals. -/
module

public import proofs.«01_k».proof.Proof.Totals

@[expose] public section

set_option maxRecDepth 16384

noncomputable section

namespace Cert.Sae

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The kernel's result as a function of its arguments. -/
def kernelValue (da : (⟨2, ![4096, 3072]⟩ : Shape).Idx → EReal) (d1 d2 d3 o1 o2 o3 : (⟨2, ![4096, 1024]⟩ : Shape).Idx → EReal)
    (ou : (⟨2, ![4096, 3072]⟩ : Shape).Idx → EReal) : EReal :=
  finish fun k => ((totals d1 d2 d3 o1 o2 o3 da ou)[k.val]?).getD 0

/-- The lowest bins as the second call reads them. -/
theorem lows_at (c : Dev nD) (k : Fin 3) :
    (show Vec Ideal S3 .f32 from W2 m ρ c (Proc.devRef .tc main_v4)) (ix1 k)
      = lowest (![m ((c : Thread nD τ).loc main_arg1), m ((c : Thread nD τ).loc main_arg2), m ((c : Thread nD τ).loc main_arg3)] k) := by
  refine (host1 (W1 m ρ c) _ ((W1_arr m ρ c 3).trans (arr0 (V0 m ρ) c)) k).trans ?_
  exact lows _ _ _ k

/-- What the second call leaves in its array. -/
theorem lanes_after (c : Dev nD) : W3 m ρ c (Proc.devRef .tc main_v5)
    = lanesArr (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg0)) (m ((c : Thread nD τ).loc main_arg7)) (W2 m ρ c (Proc.devRef .tc main_v4)) := by
  refine ((W3_arr m ρ c 9).trans (arr1 (V2 m ρ) c)).trans ?_
  rw [← W2_args m ρ c main_arg0 (by decide), ← W2_args m ρ c main_arg1 (by decide), ← W2_args m ρ c main_arg2 (by decide),
    ← W2_args m ρ c main_arg3 (by decide), ← W2_args m ρ c main_arg4 (by decide), ← W2_args m ρ c main_arg5 (by decide),
    ← W2_args m ρ c main_arg6 (by decide), ← W2_args m ρ c main_arg7 (by decide)]

theorem value (c : Dev nD) :
    (show Vec Ideal S_ .f32 from W4 m ρ c (Proc.devRef .tc main_v109)) = fun _ =>
      kernelValue (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (host2 (W3 m ρ c) _ (lanes_after m ρ c)).trans (funext fun _ => ?_)
  exact congrArg finish (funext fun k => lane_total _ _ _ _ _ _ _ _ _ (lows_at m ρ c) k)

set_option backward.isDefEq.respectTransparency.types false in
/-- Every execution ends with the result at its value and the arguments as they were. -/
theorem kernel_run : θ_run defs (onTc (τ := τ) (main (F := Ideal))) ⟨m, fun _ => 0, ρ⟩ (fun r => ∀ c : Dev nD,
      (show Vec Ideal S_ .f32 from r.2.mem ((c.tc : Thread nD τ).loc main_v109)) = (fun _ =>
        kernelValue (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v109 (by decide))).trans (value m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sae
-- ==== Proof.Equation.lean ====
/- The reference's result is the kernel's. -/
module

public import proofs.«01_k».proof.Proof.ReadRows
public import proofs.«01_k».proof.Proof.KernelRun

@[expose] public section

set_option maxRecDepth 16384

noncomputable section

namespace Cert.Sae.Ref

open Idealize.ShloMosaic Idealize.ShloMosaic.TcCoe Idealize.ShloMosaic.Tactic Cert.ReferenceIdeal Cert.ReferenceIdeal.Gen
open Idealize.SL Idealize.SL.Sem

theorem entropy_coe (s : ℝ) : entropy (s : EReal) = ((Real.log 1024 - s / (4096 * 1024) : ℝ) : EReal) := by
  rw [entropy, c1024, c4096, ← EReal.coe_mul, div_real _ (by norm_num), Ideal.log_coe, if_neg (by norm_num), ← EReal.coe_sub]

/-- Two codes below 128 are read back from their joined word. -/
theorem join_inj {a b a' b' : BitVec 32} (ha : a.toNat < 128) (hb : b.toNat < 128) (ha' : a'.toNat < 128) (hb' : b'.toNat < 128) :
    a * 128#32 + b = a' * 128#32 + b' ↔ (a, b) = (a', b') := by
  constructor
  · intro h
    have h' := congrArg BitVec.toNat h
    simp only [BitVec.toNat_add, BitVec.toNat_mul, BitVec.toNat_ofNat] at h'
    rw [Prod.mk.injEq]
    constructor <;> apply BitVec.eq_of_toNat_eq <;> omega
  · intro h
    obtain ⟨rfl, rfl⟩ := Prod.mk.injEq .. ▸ h
    rfl

section logs
variable (d1 d2 d3 : Vec Ideal S4096x1024 .f32) (r : Fin 4096)

theorem logs_one : logs (row (codesV (F := Ideal) d1) r) = logs (code d1 r) :=
  logs_congr fun i j => by rw [row, row, codesV_apply, codesV_apply]

theorem logs_two : logs (row (join (codesV (F := Ideal) d1) (codesV (F := Ideal) d2)) r) = logs fun j => (code d1 r j, code d2 r j) :=
  logs_congr fun i j => by
    rw [row, row, join_apply, join_apply, codesV_apply, codesV_apply, codesV_apply, codesV_apply]
    exact join_inj (codeW_lt _ _) (codeW_lt _ _) (codeW_lt _ _) (codeW_lt _ _)

theorem logs_three : logs (row (join (join (codesV (F := Ideal) d1) (codesV (F := Ideal) d2)) (codesV (F := Ideal) d3)) r)
    = logs fun j => (code d1 r j * 128#32 + code d2 r j) * 128#32 + code d3 r j :=
  logs_congr fun i j => by
    rw [row, row, join_apply, join_apply, join_apply, join_apply, codesV_apply, codesV_apply, codesV_apply, codesV_apply, codesV_apply, codesV_apply]

theorem logsTwo_comm : logsTwo d1 d2 = logsTwo d2 d1 :=
  Finset.sum_congr rfl fun R _ => logs_congr fun i j => by rw [Prod.mk.injEq, Prod.mk.injEq]; exact and_comm

theorem sorted_rowEnt (x : IVec S4096x1024 32) : rowEnt (F := Ideal) (sortV x) (ix1 r) = ((Real.log 1024 - logs (row x r) / 1024 : ℝ) : EReal) := by
  rw [rowEnt_apply]
  obtain ⟨σ, hσ⟩ := sortV_row x r
  rw [hσ, logs_perm (row x r) σ]

end logs

section whole
variable (d1 d2 d3 o1 o2 o3 : Vec Ideal S4096x1024 .f32) (da ou : Vec Ideal S4096x3072 .f32) (i : S_.Idx)

theorem ent_one : meanEnt (F := Ideal) (codesV d1) i = entropy (logsOne d1 : ℝ) := by
  rw [meanEnt_apply _ _ (logs_one d1), entropy_coe]; rfl

theorem ent_two : meanEnt (F := Ideal) (join (codesV (F := Ideal) d1) (codesV (F := Ideal) d2)) i = entropy (logsTwo d1 d2 : ℝ) := by
  rw [meanEnt_apply _ _ (logs_two d1 d2), entropy_coe]; rfl

theorem cmiRows_apply (r : Fin 4096) : cmiRows (F := Ideal) d1 d2 d3 (ix1 r)
    = (((logs (code d3 r) + logs (fun j => (code d1 r j * 128#32 + code d2 r j) * 128#32 + code d3 r j)
        - logs (fun j => (code d1 r j, code d3 r j)) - logs (fun j => (code d2 r j, code d3 r j))) / 1024 : ℝ) : EReal) := by
  unfold cmiRows
  pointwise
  rw [sorted_rowEnt, sorted_rowEnt, sorted_rowEnt, sorted_rowEnt, logs_one, logs_two, logs_two, logs_three]
  rw [← EReal.coe_add, ← EReal.coe_sub, ← EReal.coe_sub]
  congr 1
  ring

theorem cmi_sum : sumV (F := Ideal) (cmiRows d1 d2 d3) i
    = Ideal.div ((logsOne d3 : ℝ) + (logsThree d1 d2 d3 : ℝ) - (logsTwo d1 d3 : ℝ) - (logsTwo d3 d2 : ℝ) : EReal) (Ideal.ofBits .f32 0x44800000#32) := by
  rw [sumV_apply, Finset.sum_congr rfl fun r _ => cmiRows_apply d1 d2 d3 r, ← coe_sum, logsTwo_comm d3 d2, c1024,
    ← EReal.coe_add, ← EReal.coe_sub, ← EReal.coe_sub, div_real _ (by norm_num), ← Finset.sum_div, Finset.sum_sub_distrib, Finset.sum_sub_distrib, Finset.sum_add_distrib]
  rfl

theorem same_dif : Same (entropy (logsOne d1 : ℝ) - rowMean (termsOne d1 o1)) (dif1 (F := Ideal) d1 o1 i) := by
  unfold dif1
  pointwise
  rw [ent_one]
  exact Same.sub (entropy_coe _ ▸ Same.coe _) (same1 d1 o1 i)

theorem same_mi : Same (rowMean (termsOne d1 o1) + rowMean (termsOne d2 o2) - rowMean (termsTwo d1 d2 o1 o2)
      - (entropy (logsOne d1 : ℝ) + entropy (logsOne d2 : ℝ) - entropy (logsTwo d1 d2 : ℝ))) (mi (F := Ideal) d1 d2 o1 o2 i) := by
  unfold mi
  pointwise
  rw [ent_one, ent_one, ent_two]
  have e : ∀ s : ℝ, Same (entropy (s : EReal)) (entropy (s : EReal)) := fun s => entropy_coe s ▸ Same.coe _
  exact (((same1 d1 o1 i).add (same1 d2 o2 i)).sub (same2 d1 d2 o1 o2 i)).sub (((e _).add (e _)).sub (e _))

theorem same_cmi : Same (rowMean (termsTwo d2 d3 o2 o3) - rowMean (termsOne d3 o3) + rowMean (termsTwo d1 d3 o1 o3) - rowMean (termsThree d1 d2 d3 o1 o2 o3)
      - Ideal.div ((logsOne d3 : ℝ) + (logsThree d1 d2 d3 : ℝ) - (logsTwo d1 d3 : ℝ) - (logsTwo d3 d2 : ℝ) : EReal) (Ideal.ofBits .f32 0x44800000#32))
    (cmi (F := Ideal) d1 d2 d3 o1 o2 o3 i) := by
  unfold cmi
  pointwise
  refine ((((same2 d2 d3 o2 o3 i).sub (same1 d3 o3 i)).add (same2 d1 d3 o1 o3 i)).sub (same3 d1 d2 d3 o1 o2 o3 i)).sub ?_
  rw [cmi_sum, c1024, ← EReal.coe_add, ← EReal.coe_sub, ← EReal.coe_sub, div_real _ (by norm_num)]
  exact Same.coe _

theorem half_mean (s : EReal) : Ideal.div (Ideal.ofBits .f32 0x3F000000#32 * s) (Ideal.ofBits .f32 0x45800000#32 * Ideal.ofBits .f32 0x40400000#32 * Ideal.ofBits .f32 0x44800000#32)
    = Ideal.ofBits .f32 0x3F000000#32 * Ideal.div s (Ideal.ofBits .f32 0x4B400000#32) := by
  have h3 : Ideal.ofBits .f32 0x40400000#32 = ((3 : ℝ) : EReal) := by
    simp [Ideal.ofBits, Ideal.ieee]; rw [← EReal.coe_mul]; norm_num
  have h : Ideal.ofBits .f32 0x45800000#32 * Ideal.ofBits .f32 0x40400000#32 * Ideal.ofBits .f32 0x44800000#32 = ((4096 * 3072 : ℝ) : EReal) := by
    rw [c4096, h3, c1024, ← EReal.coe_mul, ← EReal.coe_mul]; norm_num
  rw [h, n3, Ideal.div_coe (by norm_num), Ideal.div_coe (by norm_num), mul_assoc]

theorem squares_apply (h : (⟨2, ![4096, 3072]⟩ : Shape).ReducesTo [0, 1] S_) (x : Vec Ideal S4096x3072 .f32)
    (hx : x = mulf (F := Ideal) (φ := .f32) (subf da ou) (subf da ou)) :
    totalV (F := Ideal) (n := 4096) (w := 3072) h x i = squares da ou := by
  rw [totalV_apply, hx]
  rfl

theorem result_apply : result (F := Ideal) d1 d2 d3 o1 o2 o3 da ou i
    = combine (Ideal.ofBits .f32 0x3F000000#32 * Ideal.div (squares da ou) (Ideal.ofBits .f32 0x4B400000#32))
      (dif1 (F := Ideal) d1 o1 i) (dif1 (F := Ideal) d2 o2 i) (dif1 (F := Ideal) d3 o3 i)
      (mi (F := Ideal) d1 d3 o1 o3 i) (mi (F := Ideal) d2 d3 o2 o3 i) (mi (F := Ideal) d1 d2 o1 o2 i) (cmi (F := Ideal) d1 d2 d3 o1 o2 o3 i) := by
  rw [← squares_apply da ou i reducesTo_S4096x3072_S_d0_1 _ rfl]
  unfold result sq lit
  pointwise
  rfl

theorem combine_same {a a1 a2 a3 a4 a5 a6 a7 b b1 b2 b3 b4 b5 b6 b7 : EReal} (h : a = b) (h1 : Same a1 b1) (h2 : Same a2 b2) (h3 : Same a3 b3)
    (h4 : Same a4 b4) (h5 : Same a5 b5) (h6 : Same a6 b6) (h7 : Same a7 b7) :
    combine a a1 a2 a3 a4 a5 a6 a7 = combine b b1 b2 b3 b4 b5 b6 b7 := by
  unfold combine twice
  rw [h, h1.square, h2.square, h3.square, h4.square, h5.square, h6.square, h7.square]

/-- The reference computes the kernel's value. -/
theorem result_eq : result (F := Ideal) d1 d2 d3 o1 o2 o3 da ou = fun _ => kernelValue da d1 d2 d3 o1 o2 o3 ou := by
  funext i
  rw [result_apply]
  refine (combine_same (half_mean _) (same_dif d1 o1 i) (same_dif d2 o2 i) (same_dif d3 o3 i) (same_mi d1 d3 o1 o3 i) ?_ ?_ (same_cmi d1 d2 d3 o1 o2 o3 i)).symm
  · have h := same_mi d2 d3 o2 o3 i
    rw [logsTwo_comm d2 d3] at h
    exact h
  · have h := same_mi d1 d2 o1 o2 i
    rw [logsTwo_comm d1 d2] at h
    exact h

end whole

end Cert.Sae.Ref
-- ==== Proof.lean ====
/- The proof of the certificate's claims. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference's frame: its run leaves the arguments as they were, and it has no semaphores. -/
theorem frame_reference : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run (F := Ideal) m ρ)

/-- From the same arguments the kernel and the reference end with the same loss. -/
theorem same_loss : Cert.algebraic_KernelIdeal_ReferenceIdeal (hKernelIdeal := Cert.KernelIdeal.Gen.facts) (hReferenceIdeal := Cert.ReferenceIdeal.Gen.facts) :=
  fun m ρ m' ρ' _ hag => ⟨_, Cert.Sae.kernel_run m ρ, (θ_run _ _ _).mono (fun r h c => by
    obtain ⟨h0, h1, h2, h3, h4, h5, h6, h7⟩ := hag c
    obtain ⟨hv, ha⟩ := h c
    refine ⟨?_, ha⟩
    rw [hv, h0, h1, h2, h3, h4, h5, h6, h7]
    exact Cert.Sae.Ref.result_eq _ _ _ _ _ _ _ _) (Cert.Sae.Ref.run_result (F := Ideal) m' ρ')⟩

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  frame_reference,
  trivial,
  same_loss⟩

end Cert.Proof

end
